-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v37_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x1024 : Shape := ⟨3, ![4, 2048, 1024]⟩
abbrev S1024x1024 : Shape := ⟨2, ![1024, 1024]⟩
abbrev S1x16x1x1 : Shape := ⟨4, ![1, 16, 1, 1]⟩
abbrev S4x16x64x64 : Shape := ⟨4, ![4, 16, 64, 64]⟩
abbrev S_ : Shape := ⟨0, ![]⟩

class Facts : Prop where
  bcast_S_S4x2048x1024 : S_.BroadcastsInDim S4x2048x1024 (![] : Fin 0 → Fin S4x2048x1024.rank)
  bcast_S_S1024x1024 : S_.BroadcastsInDim S1024x1024 (![] : Fin 0 → Fin S1024x1024.rank)
  bcast_S_S4x16x64x64 : S_.BroadcastsInDim S4x16x64x64 (![] : Fin 0 → Fin S4x16x64x64.rank)

variable [Facts]

def fn {F : FTy → Type} [FloatOps F] (main_arg0 : FVec F S4x2048x1024 .f32) (main_arg1 : FVec F S1024x1024 .f32) (main_arg2 : FVec F S1024x1024 .f32) (main_arg3 : FVec F S1024x1024 .f32) (main_arg4 : FVec F S1024x1024 .f32) (main_arg5 : FVec F S1x16x1x1 .f32) (main_arg6 : FVec F S1x16x1x1 .f32) (main_arg7 : FVec F S4x16x64x64 .f32) : IVec S4x2048x1024 1 × IVec S1024x1024 1 × IVec S1024x1024 1 × IVec S4x16x64x64 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024x1024 .f32 := Host.absf main_arg3
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S4x16x64x64 .f32 := Host.absf main_arg7
  let main_cst_2 : FVec F S_ .f32 := constant S_ .f32 0x7F800000#32
  let main_v10 : FVec F S4x16x64x64 .f32 := broadcastInDim S4x16x64x64 ![] bcast_S_S4x16x64x64 main_cst_2
  let main_v11 : IVec S4x16x64x64 1 := cmpf .olt main_v9 main_v10
  (main_v2, main_v5, main_v8, main_v11)
-- ==== Kernel.lean ====
abbrev S4x2048x1024 : Shape := ⟨3, ![4, 2048, 1024]⟩
abbrev S1024x1024 : Shape := ⟨2, ![1024, 1024]⟩
abbrev S1x16x1x1 : Shape := ⟨4, ![1, 16, 1, 1]⟩
abbrev S4x16x64x64 : Shape := ⟨4, ![4, 16, 64, 64]⟩
abbrev S16 : Shape := ⟨1, ![16]⟩
abbrev S1x16 : Shape := ⟨2, ![1, 16]⟩
abbrev S2x16 : Shape := ⟨2, ![2, 16]⟩
abbrev S2x256x1024 : Shape := ⟨3, ![2, 256, 1024]⟩
abbrev S2x16x64x64 : Shape := ⟨4, ![2, 16, 64, 64]⟩
abbrev S2x1024x256 : Shape := ⟨3, ![2, 1024, 256]⟩
abbrev S1x256x1024 : Shape := ⟨3, ![1, 256, 1024]⟩
abbrev S256x1024 : Shape := ⟨2, ![256, 1024]⟩
abbrev S1024x256 : Shape := ⟨2, ![1024, 256]⟩
abbrev S1x1024x256 : Shape := ⟨3, ![1, 1024, 256]⟩
abbrev S256x256 : Shape := ⟨2, ![256, 256]⟩
abbrev S1x64x256 : Shape := ⟨3, ![1, 64, 256]⟩
abbrev S64x256 : Shape := ⟨2, ![64, 256]⟩
abbrev S256 : Shape := ⟨1, ![256]⟩
abbrev S1x256 : Shape := ⟨2, ![1, 256]⟩
abbrev S1x1 : Shape := ⟨2, ![1, 1]⟩
abbrev S1x1x64x64 : Shape := ⟨4, ![1, 1, 64, 64]⟩
abbrev S64x64 : Shape := ⟨2, ![64, 64]⟩

abbrev nBuf : Space → Nat
  | .hbm => 15
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1x16x1x1, .f32⟩
  | .hbm, ⟨6, _⟩ => ⟨S1x16x1x1, .f32⟩
  | .hbm, ⟨7, _⟩ => ⟨S4x16x64x64, .f32⟩
  | .hbm, ⟨8, _⟩ => ⟨S16, .f32⟩
  | .hbm, ⟨9, _⟩ => ⟨S16, .f32⟩
  | .hbm, ⟨10, _⟩ => ⟨S1x16, .f32⟩
  | .hbm, ⟨11, _⟩ => ⟨S1x16, .f32⟩
  | .hbm, ⟨12, _⟩ => ⟨S2x16, .f32⟩
  | .hbm, ⟨13, _⟩ => ⟨S4x2048x1024, .f32⟩
  | .hbm, ⟨14, _⟩ => ⟨S4x16x64x64, .f32⟩
  | .local _ .vmem, ⟨0, _⟩ => ⟨S2x256x1024, .f32⟩
  | .local _ .vmem, ⟨1, _⟩ => ⟨S2x256x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S2x16, .f32⟩
  | .local _ .vmem, ⟨7, _⟩ => ⟨S2x16x64x64, .f32⟩
  | .local _ .vmem, ⟨8, _⟩ => ⟨S2x16x64x64, .f32⟩
  | .local _ .vmem, ⟨9, _⟩ => ⟨S2x256x1024, .f32⟩
  | .local _ .vmem, ⟨10, _⟩ => ⟨S2x256x1024, .f32⟩
  | .local _ .vmem, ⟨11, _⟩ => ⟨S2x16x64x64, .f32⟩
  | .local _ .vmem, ⟨12, _⟩ => ⟨S2x16x64x64, .f32⟩
  | .local _ .vmem, ⟨13, _⟩ => ⟨S2x16x64x64, .f32⟩
  | .local _ .vmem, ⟨14, _⟩ => ⟨S2x1024x256, .f32⟩
  | .local _ .vmem, ⟨15, _⟩ => ⟨S2x1024x256, .f32⟩
  | .local _ .vmem, ⟨16, _⟩ => ⟨S2x1024x256, .f32⟩
  | .local _ .vmem, ⟨17, _⟩ => ⟨S2x1024x256, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v2173 : BitVec 1 := Scalar.cmpi .eq arg1 c7_i32
  let v2174 : BitVec 32 := Scalar.extui v2173
  let c0_i32_1466 : BitVec 32 := 0#32
  let v2175 : BitVec 1 := Scalar.cmpi .ne v2174 c0_i32_1466
  v2175

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x16x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x16x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4x2048x1024 : Shape := ⟨3, ![4, 2048, 1024]⟩
abbrev S1024x1024 : Shape := ⟨2, ![1024, 1024]⟩
abbrev S1x16x1x1 : Shape := ⟨4, ![1, 16, 1, 1]⟩
abbrev S4x16x64x64 : Shape := ⟨4, ![4, 16, 64, 64]⟩
abbrev S4x2048x16x64 : Shape := ⟨4, ![4, 2048, 16, 64]⟩
abbrev S4x16x2048x64 : Shape := ⟨4, ![4, 16, 2048, 64]⟩
abbrev S_ : Shape := ⟨0, ![]⟩
abbrev S4x16x2048 : Shape := ⟨3, ![4, 16, 2048]⟩
abbrev S4x16x2048x1 : Shape := ⟨4, ![4, 16, 2048, 1]⟩
abbrev S2048x4x16x64 : Shape := ⟨4, ![2048, 4, 16, 64]⟩
abbrev S1x4x16x64 : Shape := ⟨4, ![1, 4, 16, 64]⟩
abbrev S4x16x64 : Shape := ⟨3, ![4, 16, 64]⟩
abbrev S4x16x64x1 : Shape := ⟨4, ![4, 16, 64, 1]⟩
abbrev S4x16x1x64 : Shape := ⟨4, ![4, 16, 1, 64]⟩

abbrev nBuf : Space → Nat
  | .hbm => 112
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1x16x1x1, .f32⟩
  | .hbm, ⟨6, _⟩ => ⟨S1x16x1x1, .f32⟩
  | .hbm, ⟨7, _⟩ => ⟨S4x16x64x64, .f32⟩
  | .hbm, ⟨8, _⟩ => ⟨S1024x1024, .f32⟩
  | .hbm, ⟨9, _⟩ => ⟨S4x2048x1024, .f32⟩
  | .hbm, ⟨10, _⟩ => ⟨S4x2048x16x64, .f32⟩
  | .hbm, ⟨11, _⟩ => ⟨S4x16x2048x64, .f32⟩
  | .hbm, ⟨12, _⟩ => ⟨S1024x1024, .f32⟩
  | .hbm, ⟨13, _⟩ => ⟨S4x2048x1024, .f32⟩
  | .hbm, ⟨14, _⟩ => ⟨S4x2048x16x64, .f32⟩
  | .hbm, ⟨15, _⟩ => ⟨S4x16x2048x64, .f32⟩
  | .hbm, ⟨16, _⟩ => ⟨S1024x1024, .f32⟩
  | .hbm, ⟨17, _⟩ => ⟨S4x2048x1024, .f32⟩
  | .hbm, ⟨18, _⟩ => ⟨S4x2048x16x64, .f32⟩
  | .hbm, ⟨19, _⟩ => ⟨S4x16x2048x64, .f32⟩
  | .hbm, ⟨20, _⟩ => ⟨S4x16x2048x64, .f32⟩
  | .hbm, ⟨21, _⟩ => ⟨S_, .f32⟩
  | .hbm, ⟨22, _⟩ => ⟨S4x16x2048, .f32⟩
  | .hbm, ⟨23, _⟩ => ⟨S4x16x2048x1, .f32⟩
  | .hbm, ⟨24, _⟩ => ⟨S4x16x2048x1, .f32⟩
  | .hbm, ⟨25, _⟩ => ⟨S_, .f32⟩
  | .hbm, ⟨26, _⟩ => ⟨S4x16x2048x1, .f32⟩
  | .hbm, ⟨27, _⟩ => ⟨S4x16x2048x1, .f32⟩
  | .hbm, ⟨28, _⟩ => ⟨S4x16x2048x64, .f32⟩
  | .hbm, ⟨29, _⟩ => ⟨S4x16x2048x64, .f32⟩
  | .hbm, ⟨30, _⟩ => ⟨S1x16x1x1, .f32⟩
  | .hbm, ⟨31, _⟩ => ⟨S1x16x1x1, .f32⟩
  | .hbm, ⟨32, _⟩ => ⟨S_, .f32⟩
  | .hbm, ⟨33, _⟩ => ⟨S1x16x1x1, .f32⟩
  | .hbm, ⟨34, _⟩ => ⟨S1x16x1x1, .f32⟩
  | .hbm, ⟨35, _⟩ => ⟨S_, .f32⟩
  | .hbm, ⟨36, _⟩ => ⟨S1x16x1x1, .f32⟩
  | .hbm, ⟨37, _⟩ => ⟨S1x16x1x1, .f32⟩
  | .hbm, ⟨38, _⟩ => ⟨S_, .f32⟩
  | .hbm, ⟨39, _⟩ => ⟨S1x16x1x1, .f32⟩
  | .hbm, ⟨40, _⟩ => ⟨S1x16x1x1, .f32⟩
  | .hbm, ⟨41, _⟩ => ⟨S1x16x1x1, .f32⟩
  | .hbm, ⟨42, _⟩ => ⟨S1x16x1x1, .f32⟩
  | .hbm, ⟨43, _⟩ => ⟨S_, .f32⟩
  | .hbm, ⟨44, _⟩ => ⟨S1x16x1x1, .f32⟩
  | .hbm, ⟨45, _⟩ => ⟨S1x16x1x1, .f32⟩
  | .hbm, ⟨46, _⟩ => ⟨S_, .f32⟩
  | .hbm, ⟨47, _⟩ => ⟨S1x16x1x1, .f32⟩
  | .hbm, ⟨48, _⟩ => ⟨S1x16x1x1, .f32⟩
  | .hbm, ⟨49, _⟩ => ⟨S_, .f32⟩
  | .hbm, ⟨50, _⟩ => ⟨S1x16x1x1, .f32⟩
  | .hbm, ⟨51, _⟩ => ⟨S1x16x1x1, .f32⟩
  | .hbm, ⟨52, _⟩ => ⟨S2048x4x16x64, .f32⟩
  | .hbm, ⟨53, _⟩ => ⟨S2048x4x16x64, .f32⟩
  | .hbm, ⟨54, _⟩ => ⟨S2048x4x16x64, .f32⟩
  | .hbm, ⟨55, _⟩ => ⟨S_, .f32⟩
  | .hbm, ⟨56, _⟩ => ⟨S2048x4x16x64, .f32⟩
  | .hbm, ⟨57, _⟩ => ⟨S_, .i32⟩
  | .hbm, ⟨58, _⟩ => ⟨S2048x4x16x64, .f32⟩
  | .hbm, ⟨59, _⟩ => ⟨S2048x4x16x64, .f32⟩
  | .hbm, ⟨60, _⟩ => ⟨S2048x4x16x64, .f32⟩
  | .hbm, ⟨61, _⟩ => ⟨S1x16x1x1, .f32⟩
  | .hbm, ⟨62, _⟩ => ⟨S1x16x1x1, .f32⟩
  | .hbm, ⟨63, _⟩ => ⟨S_, .i32⟩
  | .hbm, ⟨64, _⟩ => ⟨S4x16x64x64, .f32⟩
  | .hbm, ⟨65, _⟩ => ⟨S2048x4x16x64, .f32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S1x4x16x64, .f32⟩
  | .hbm, ⟨72, _⟩ => ⟨S4x16x64, .f32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S1x4x16x64, .f32⟩
  | .hbm, ⟨77, _⟩ => ⟨S4x16x64, .f32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S1x4x16x64, .f32⟩
  | .hbm, ⟨82, _⟩ => ⟨S4x16x64, .f32⟩
  | .hbm, ⟨83, _⟩ => ⟨S4x16x64, .f32⟩
  | .hbm, ⟨84, _⟩ => ⟨S4x16x64, .f32⟩
  | .hbm, ⟨85, _⟩ => ⟨S4x16x64x1, .f32⟩
  | .hbm, ⟨86, _⟩ => ⟨S4x16x1x64, .f32⟩
  | .hbm, ⟨87, _⟩ => ⟨S4x16x64x64, .f32⟩
  | .hbm, ⟨88, _⟩ => ⟨S4x16x64x64, .f32⟩
  | .hbm, ⟨89, _⟩ => ⟨S4x16x64x64, .f32⟩
  | .hbm, ⟨90, _⟩ => ⟨S4x16x64x64, .f32⟩
  | .hbm, ⟨91, _⟩ => ⟨S4x16x64x64, .f32⟩
  | .hbm, ⟨92, _⟩ => ⟨S4x16x64x64, .f32⟩
  | .hbm, ⟨93, _⟩ => ⟨S4x16x64x1, .f32⟩
  | .hbm, ⟨94, _⟩ => ⟨S4x16x1x64, .f32⟩
  | .hbm, ⟨95, _⟩ => ⟨S4x16x64x64, .f32⟩
  | .hbm, ⟨96, _⟩ => ⟨S4x16x64x64, .f32⟩
  | .hbm, ⟨97, _⟩ => ⟨S4x16x64x64, .f32⟩
  | .hbm, ⟨98, _⟩ => ⟨S4x16x64x64, .f32⟩
  | .hbm, ⟨99, _⟩ => ⟨S4x16x64x64, .f32⟩
  | .hbm, ⟨100, _⟩ => ⟨S4x16x64x64, .f32⟩
  | .hbm, ⟨101, _⟩ => ⟨S1x4x16x64, .f32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S2048x4x16x64, .f32⟩
  | .hbm, ⟨106, _⟩ => ⟨S_, .i32⟩
  | .hbm, ⟨107, _⟩ => ⟨S_, .i32⟩
  | .hbm, ⟨108, _⟩ => ⟨S4x2048x16x64, .f32⟩
  | .hbm, ⟨109, _⟩ => ⟨S4x2048x1024, .f32⟩
  | .hbm, ⟨110, _⟩ => ⟨S1024x1024, .f32⟩
  | .hbm, ⟨111, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_v0 : Ref sig .tc := ⟨.hbm, 20, rfl⟩
abbrev main_call0_cst : Ref sig .tc := ⟨.hbm, 21, rfl⟩
abbrev main_call0_v1 : Ref sig .tc := ⟨.hbm, 22, rfl⟩
abbrev main_call0_v2 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_c : Ref sig .tc := ⟨.hbm, 57, rfl⟩
abbrev main_v37_0 : Ref sig .tc := ⟨.hbm, 58, rfl⟩
abbrev main_v37_1 : Ref sig .tc := ⟨.hbm, 59, rfl⟩
abbrev main_v37_2 : Ref sig .tc := ⟨.hbm, 60, rfl⟩
abbrev main_v37_3 : Ref sig .tc := ⟨.hbm, 61, rfl⟩
abbrev main_v37_4 : Ref sig .tc := ⟨.hbm, 62, rfl⟩
abbrev main_v37_5 : Ref sig .tc := ⟨.hbm, 63, rfl⟩
abbrev main_v37_6 : Ref sig .tc := ⟨.hbm, 64, rfl⟩
abbrev main_v37_7 : Ref sig .tc := ⟨.hbm, 65, rfl⟩
abbrev main_while0c_c_14 : Ref sig .tc := ⟨.hbm, 66, rfl⟩
abbrev main_while0c_v42 : Ref sig .tc := ⟨.hbm, 67, rfl⟩
abbrev main_while0b_call1_c : Ref sig .tc := ⟨.hbm, 68, rfl⟩
abbrev main_while0b_call1_c_0 : Ref sig .tc := ⟨.hbm, 69, rfl⟩
abbrev main_while0b_call1_c_1 : Ref sig .tc := ⟨.hbm, 70, rfl⟩
abbrev main_while0b_call1_v0 : Ref sig .tc := ⟨.hbm, 71, rfl⟩
abbrev main_while0b_v42 : Ref sig .tc := ⟨.hbm, 72, rfl⟩
abbrev main_while0b_call2_c : Ref sig .tc := ⟨.hbm, 73, rfl⟩
abbrev main_while0b_call2_c_0 : Ref sig .tc := ⟨.hbm, 74, rfl⟩
abbrev main_while0b_call2_c_1 : Ref sig .tc := ⟨.hbm, 75, rfl⟩
abbrev main_while0b_call2_v0 : Ref sig .tc := ⟨.hbm, 76, rfl⟩
abbrev main_while0b_v43 : Ref sig .tc := ⟨.hbm, 77, rfl⟩
abbrev main_while0b_call3_c : Ref sig .tc := ⟨.hbm, 78, rfl⟩
abbrev main_while0b_call3_c_0 : Ref sig .tc := ⟨.hbm, 79, rfl⟩
abbrev main_while0b_call3_c_1 : Ref sig .tc := ⟨.hbm, 80, rfl⟩
abbrev main_while0b_call3_v0 : Ref sig .tc := ⟨.hbm, 81, rfl⟩
abbrev main_while0b_v44 : Ref sig .tc := ⟨.hbm, 82, rfl⟩
abbrev main_while0b_v45 : Ref sig .tc := ⟨.hbm, 83, rfl⟩
abbrev main_while0b_v46 : Ref sig .tc := ⟨.hbm, 84, rfl⟩
abbrev main_while0b_v47 : Ref sig .tc := ⟨.hbm, 85, rfl⟩
abbrev main_while0b_v48 : Ref sig .tc := ⟨.hbm, 86, rfl⟩
abbrev main_while0b_v49 : Ref sig .tc := ⟨.hbm, 87, rfl⟩
abbrev main_while0b_v50 : Ref sig .tc := ⟨.hbm, 88, rfl⟩
abbrev main_while0b_v51 : Ref sig .tc := ⟨.hbm, 89, rfl⟩
abbrev main_while0b_v52 : Ref sig .tc := ⟨.hbm, 90, rfl⟩
abbrev main_while0b_v53 : Ref sig .tc := ⟨.hbm, 91, rfl⟩
abbrev main_while0b_v54 : Ref sig .tc := ⟨.hbm, 92, rfl⟩
abbrev main_while0b_v55 : Ref sig .tc := ⟨.hbm, 93, rfl⟩
abbrev main_while0b_v56 : Ref sig .tc := ⟨.hbm, 94, rfl⟩
abbrev main_while0b_v57 : Ref sig .tc := ⟨.hbm, 95, rfl⟩
abbrev main_while0b_v58 : Ref sig .tc := ⟨.hbm, 96, rfl⟩
abbrev main_while0b_v59 : Ref sig .tc := ⟨.hbm, 97, rfl⟩
abbrev main_while0b_v60 : Ref sig .tc := ⟨.hbm, 98, rfl⟩
abbrev main_while0b_v61 : Ref sig .tc := ⟨.hbm, 99, rfl⟩
abbrev main_while0b_v62 : Ref sig .tc := ⟨.hbm, 100, rfl⟩
abbrev main_while0b_call4_v0 : Ref sig .tc := ⟨.hbm, 101, rfl⟩
abbrev main_while0b_call4_c : Ref sig .tc := ⟨.hbm, 102, rfl⟩
abbrev main_while0b_call4_c_0 : Ref sig .tc := ⟨.hbm, 103, rfl⟩
abbrev main_while0b_call4_c_1 : Ref sig .tc := ⟨.hbm, 104, rfl⟩
abbrev main_while0b_v63 : Ref sig .tc := ⟨.hbm, 105, rfl⟩
abbrev main_while0b_c_14 : Ref sig .tc := ⟨.hbm, 106, rfl⟩
abbrev main_while0b_v64 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩

abbrev nD : Nat := 1
abbrev τ : Topo := Topo.v7x

variable {F : FTy → Type} [FloatOps F]

abbrev main_while0_count : Scf.Loop 32 := ⟨0#32, 2048#32, 1#32⟩
-- ==== Proof.Finite.lean ====
/- What the precondition says: an array whose absolute value is below infinity at every entry is finite at every entry. -/
module

public import proofs.«01_k».proof.Pre_finite
public import Idealize.ShloMosaic.Lib.ValueIdx
public import Idealize.ShloMosaic.Lib.Pointwise
public import Idealize.ShloMosaic.Lib.IdealHost

@[expose] public section

noncomputable section

namespace Cert.Pre_finite

open Idealize.ShloMosaic

/-- The side conditions the predicate states. -/
theorem facts : Facts where
  bcast_S_S4x2048x1024 := by decide
  bcast_S_S1024x1024 := by decide
  bcast_S_S4x16x64x64 := by decide

/-- The word compared against is infinity. -/
theorem infinity : Ideal.ofBits .f32 0x7F800000#32 = ⊤ := by
  simp [Ideal.ofBits, Ideal.ieee]

/-- An array whose absolute value is below infinity everywhere holds finite entries. -/
theorem finite_of_below {s : Shape} (bc : S_.BroadcastsInDim s (![] : Fin 0 → Fin s.rank)) (x : FVec Ideal s .f32)
    (h : cmpf .olt (Host.absf x) (broadcastInDim s ![] bc (constant S_ .f32 0x7F800000#32)) = fun _ => 1#1) (i : s.Idx) :
    (x i : EReal) ≠ ⊥ ∧ (x i : EReal) ≠ ⊤ := by
  have h1 : Ideal.cmp .olt (Host.absf x i) (Ideal.ofBits .f32 0x7F800000#32) = 1#1 := congrFun h i
  rw [infinity] at h1
  constructor
  · intro hx
    have h2 : (Host.absf x i : EReal) = ⊤ := by
      show max (x i : EReal) (-(x i : EReal)) = ⊤
      rw [hx]; simp
    rw [h2] at h1
    simp [Ideal.cmp] at h1
  · intro hx
    have h2 : (Host.absf x i : EReal) = ⊤ := by
      show max (x i : EReal) (-(x i : EReal)) = ⊤
      rw [hx]; simp
    rw [h2] at h1
    simp [Ideal.cmp] at h1

end Cert.Pre_finite

end
-- ==== Proof.Head.lean ====
/- What the kernel computes for ONE head of one batch in one chunk, written once, as the kernel's own operations on the
   head's blocks: keys, values and queries of 64 × 256 (one column per token), a state of 64 × 64, and two rates. -/
module

public import proofs.«01_k».proof.Proof.Gen.KernelIdeal.Skeleton

@[expose] public section

noncomputable section

namespace Cert.KernelIdeal.Head

open Idealize.ShloMosaic Cert.KernelIdeal.Gen

variable {F : FTy → Type} [FloatOps F]

/-- A head's block as a matrix, one column per token. -/
def cols (x : Vec F S1x64x256 .f32) : FVec F S64x256 .f32 := shapeCast S64x256 x shapeCasts_S1x64x256_S64x256

/-- A head's state as a matrix. -/
def square (x : Vec F S1x1x64x64 .f32) : FVec F S64x64 .f32 := shapeCast S64x64 x shapeCasts_S1x1x64x64_S64x64

/-- The keys, each column over the larger of its length and a tiny floor. -/
def unitKeys (x : Vec F S1x64x256 .f32) : FVec F S64x256 .f32 :=
  divf (cols x) (broadcastTo S64x256
    (maximumf (sqrt (shapeCast S1x256
        (multiReduction .add [0] S256 (mulf (cols x) (cols x)) 0x00000000#32 reduces_S64x256_S256 (.inl rfl) rfl)
        shapeCasts_S256_S1x256))
      (broadcast S1x256 (Scalar.ofBits .f32 0x2B8CBCCC#32))) broadcasts_S1x256_S64x256)

/-- One rate of the 2 × 16 table is a 1 × 1 slice of it. -/
theorem rate_slices : ∀ (g : Fin 2) (h : Fin 16), S2x16.Slices ![(g : ℕ), (h : ℕ)] S1x1 := by decide

/-- Row `g` (0: the decay rate, 1: the write rate), head `h` of the table of rates. -/
def rate (g : Fin 2) (h : Fin 16) (ab : FVec F S2x16 .f32) : FVec F S1x1 .f32 :=
  extractStridedSlice S1x1 ![(g : ℕ), (h : ℕ)] ab (rate_slices g h)

/-- The strictly earlier keys against each key, times the decay rate. -/
def overlaps (k : FVec F S64x256 .f32) (a : FVec F S1x1 .f32) : FVec F S256x256 .f32 :=
  select k0_pay16
    (mulf (broadcastTo S256x256 a broadcasts_S1x1_S256x256)
      (matmul dot_S64x256_S64x256_S256x256_0_0_1_1_n_n none k k (constant S256x256 .f32 0x00000000#32)))
    (broadcast S256x256 (Scalar.ofBits .f32 0x00000000#32))

/-- A 64 × 256 block times a 256 × 256 matrix. -/
def timesSq (u : FVec F S64x256 .f32) (p : FVec F S256x256 .f32) : FVec F S64x256 .f32 :=
  matmul dot_S64x256_S256x256_S64x256_1_0_0_1_n_n none u p (constant S64x256 .f32 0x00000000#32)

/-- The right-hand side of the chunk's system. -/
def target (k v : FVec F S64x256 .f32) (s : FVec F S64x64 .f32) (a b : FVec F S1x1 .f32) : FVec F S64x256 .f32 :=
  subf (mulf (broadcastTo S64x256 b broadcasts_S1x1_S64x256) v)
    (mulf (broadcastTo S64x256 a broadcasts_S1x1_S64x256)
      (matmul dot_S64x64_S64x256_S64x256_1_0_0_1_n_n none s k (constant S64x256 .f32 0x00000000#32)))

/-- The doubling solve, as pairs of the power and the partial solution. -/
def sweep (n : FVec F S256x256 .f32) (r : FVec F S64x256 .f32) : ℕ → FVec F S256x256 .f32 × FVec F S64x256 .f32
  | 0 => (n, subf r (timesSq r n))
  | j + 1 =>
    (matmul dot_S256x256_S256x256_S256x256_1_0_0_1_n_n none (sweep n r j).1 (sweep n r j).1 (constant S256x256 .f32 0x00000000#32),
     addf (sweep n r j).2 (timesSq (sweep n r j).2
      (matmul dot_S256x256_S256x256_S256x256_1_0_0_1_n_n none (sweep n r j).1 (sweep n r j).1 (constant S256x256 .f32 0x00000000#32))))

/-- The head's solution: what each token adds to the state along its key. -/
def gains (k v : Vec F S1x64x256 .f32) (s : Vec F S1x1x64x64 .f32) (ab : FVec F S2x16 .f32) (h : Fin 16) : FVec F S64x256 .f32 :=
  (sweep (overlaps (unitKeys k) (rate 0 h ab)) (target (unitKeys k) (cols v) (square s) (rate 0 h ab) (rate 1 h ab)) 7).2

/-- What the head's tokens read, stored as a 1 × 64 × 256 block. -/
def reads (q k v : Vec F S1x64x256 .f32) (s : Vec F S1x1x64x64 .f32) (ab : FVec F S2x16 .f32) (h : Fin 16) : FVec F S1x64x256 .f32 :=
  shapeCast S1x64x256
    (addf (matmul dot_S64x64_S64x256_S64x256_1_0_0_1_n_n none (square s) (cols q) (constant S64x256 .f32 0x00000000#32))
      (timesSq (gains k v s ab h)
        (select k0_pay16
          (matmul dot_S64x256_S64x256_S256x256_0_0_1_1_n_n none (unitKeys k) (cols q) (constant S256x256 .f32 0x00000000#32))
          (broadcast S256x256 (Scalar.ofBits .f32 0x00000000#32))))) shapeCasts_S64x256_S1x64x256

/-- The head's state after the chunk, stored as a 1 × 1 × 64 × 64 block. -/
def leaves (k v : Vec F S1x64x256 .f32) (s : Vec F S1x1x64x64 .f32) (ab : FVec F S2x16 .f32) (h : Fin 16) : FVec F S1x1x64x64 .f32 :=
  shapeCast S1x1x64x64
    (addf (square s)
      (matmul dot_S64x256_S64x256_S64x64_1_1_0_0_n_n none (gains k v s ab h) (unitKeys k) (constant S64x64 .f32 0x00000000#32)))
    shapeCasts_S64x64_S1x1x64x64

/-! ## Where a head's blocks lie -/

/-- Head `h` of batch `b` in a 2 × 1024 × 256 array: rows 64 h to 64 h + 63. -/
theorem block_inb (b : Fin 2) (h : Fin 16) :
    ∀ a, (![(b : ℕ), 64 * (h : ℕ), 0] : Fin 3 → ℕ) a + S1x64x256.size a ≤ S2x1024x256.size a := by
  revert b h; decide

/-- Head `h` of batch `b` in a 2 × 16 × 64 × 64 array. -/
theorem cell_inb (b : Fin 2) (h : Fin 16) :
    ∀ a, (![(b : ℕ), (h : ℕ), 0, 0] : Fin 4 → ℕ) a + S1x1x64x64.size a ≤ S2x16x64x64.size a := by
  revert b h; decide

/-- The head's rectangle among the projected tokens. -/
abbrev blockRect (b : Fin 2) (h : Fin 16) : Rect S2x1024x256 := Rect.unit ![(b : ℕ), 64 * (h : ℕ), 0] S1x64x256.size (block_inb b h)

/-- The head's rectangle among the states. -/
abbrev cellRect (b : Fin 2) (h : Fin 16) : Rect S2x16x64x64 := Rect.unit ![(b : ℕ), (h : ℕ), 0, 0] S1x1x64x64.size (cell_inb b h)

/-- The 32 heads of a block of two batches, the last first. -/
def heads : List (Fin 2 × Fin 16) :=
  [(1, 15), (1, 14), (1, 13), (1, 12), (1, 11), (1, 10), (1, 9), (1, 8), (1, 7), (1, 6), (1, 5), (1, 4), (1, 3), (1, 2), (1, 1), (1, 0),
   (0, 15), (0, 14), (0, 13), (0, 12), (0, 11), (0, 10), (0, 9), (0, 8), (0, 7), (0, 6), (0, 5), (0, 4), (0, 3), (0, 2), (0, 1), (0, 0)]

/-- The stores of the heads' reads, the last first. -/
def readStores (q k v : Fin 2 → Fin 16 → Vec F S1x64x256 .f32) (s : Fin 2 → Fin 16 → Vec F S1x1x64x64 .f32) (ab : FVec F S2x16 .f32) :
    List (View.Piece (Elt F) S2x1024x256 .f32) :=
  heads.map fun p => ⟨blockRect p.1 p.2, reads (q p.1 p.2) (k p.1 p.2) (v p.1 p.2) (s p.1 p.2) ab p.2⟩

/-- The stores of the heads' states, the last first. -/
def stateStores (k v : Fin 2 → Fin 16 → Vec F S1x64x256 .f32) (s : Fin 2 → Fin 16 → Vec F S1x1x64x64 .f32) (ab : FVec F S2x16 .f32) :
    List (View.Piece (Elt F) S2x16x64x64 .f32) :=
  heads.map fun p => ⟨cellRect p.1 p.2, leaves (k p.1 p.2) (v p.1 p.2) (s p.1 p.2) ab p.2⟩

end Cert.KernelIdeal.Head

end
-- ==== Proof.Chunked.lean ====
/- What one grid point of the kernel (256 tokens of two batches) leaves in each buffer, as functions of what it finds:
   the token block, the weights, the table of raw rates and the heads' states. -/
module

public import proofs.«01_k».proof.Proof.Head
public import Idealize.ShloMosaic.Lib.Pointwise
public import Idealize.ShloMosaic.Lib.Pipeline.Value
public import Idealize.ShloMosaic.Lib.Pipeline.FrameBody

@[expose] public section

set_option maxRecDepth 16384

noncomputable section

namespace Cert.KernelIdeal.Head

open Idealize.ShloMosaic Cert.KernelIdeal.Gen

variable {F : FTy → Type} [FloatOps F]

/-- One batch of the token block is a 1 × 256 × 1024 part of it. -/
theorem tokens_inb (b : Fin 2) : ∀ a, (![(b : ℕ), 0, 0] : Fin 3 → ℕ) a + S1x256x1024.size a ≤ S2x256x1024.size a := by
  revert b; decide

/-- One batch of a 2 × 1024 × 256 array. -/
theorem plane_inb (b : Fin 2) : ∀ a, (![(b : ℕ), 0, 0] : Fin 3 → ℕ) a + S1x1024x256.size a ≤ S2x1024x256.size a := by
  revert b; decide

/-- Batch `b` of the token block. -/
abbrev tokensRect (b : Fin 2) : Rect S2x256x1024 := Rect.unit ![(b : ℕ), 0, 0] S1x256x1024.size (tokens_inb b)

/-- Batch `b` of the projected tokens. -/
abbrev planeRect (b : Fin 2) : Rect S2x1024x256 := Rect.unit ![(b : ℕ), 0, 0] S1x1024x256.size (plane_inb b)

/-- The two batches of a block, the last first. -/
def batches : List (Fin 2) := [1, 0]

/-- One batch's tokens projected by a weight matrix: weight rows down, tokens across. -/
def project (w : Vec F S1024x1024 .f32) (x : Vec F S1x256x1024 .f32) : FVec F S1x1024x256 .f32 :=
  shapeCast S1x1024x256
    (matmul dot_S1024x1024_S256x1024_S1024x256_1_1_0_0_n_n none (truncf .bf16 w bitsLt_bf16_f32)
      (truncf .bf16 (shapeCast S256x1024 x shapeCasts_S1x256x1024_S256x1024) bitsLt_bf16_f32)
      (constant S1024x256 .f32 0x00000000#32)) shapeCasts_S1024x256_S1x1024x256

/-- The stores of a projection, one per batch, the last first. -/
def projectStores (w : Vec F S1024x1024 .f32) (x : Fin 2 → Vec F S1x256x1024 .f32) : List (View.Piece (Elt F) S2x1024x256 .f32) :=
  batches.map fun b => ⟨planeRect b, project w (x b)⟩

/-- Both batches' projected tokens. -/
def projected (w : Vec F S1024x1024 .f32) (x : Vec F S2x256x1024 .f32) : Vec F S2x1024x256 .f32 :=
  fun j => project w (View.ld x (tokensRect (j 0))) (ix3 (0 : Fin 1) (j 1) (j 2))

/-- The head of a row of the projected tokens. -/
def headOf (r : Fin 1024) : Fin 16 := ⟨(r : ℕ) / 64, by have := r.isLt; omega⟩

/-- The row inside its head. -/
def rowOf (r : Fin 1024) : Fin 64 := ⟨(r : ℕ) % 64, by omega⟩

/-- What every token of the block reads, all heads. -/
def readAll (q k v : Vec F S2x1024x256 .f32) (s : Vec F S2x16x64x64 .f32) (ab : FVec F S2x16 .f32) : Vec F S2x1024x256 .f32 :=
  fun j => reads (View.ld q (blockRect (j 0) (headOf (j 1)))) (View.ld k (blockRect (j 0) (headOf (j 1))))
    (View.ld v (blockRect (j 0) (headOf (j 1)))) (View.ld s (cellRect (j 0) (headOf (j 1)))) ab (headOf (j 1))
    (ix3 (0 : Fin 1) (rowOf (j 1)) (j 2))

/-- The state of every head after the block. -/
def leaveAll (k v : Vec F S2x1024x256 .f32) (s : Vec F S2x16x64x64 .f32) (ab : FVec F S2x16 .f32) : Vec F S2x16x64x64 .f32 :=
  fun j => leaves (View.ld k (blockRect (j 0) (j 1))) (View.ld v (blockRect (j 0) (j 1))) (View.ld s (cellRect (j 0) (j 1))) ab (j 1)
    (ix4 (0 : Fin 1) (0 : Fin 1) (j 2) (j 3))

/-- One batch's output: its reads times the output weights. -/
def output (y : Vec F S1x1024x256 .f32) (w : Vec F S1024x1024 .f32) : FVec F S1x256x1024 .f32 :=
  shapeCast S1x256x1024
    (matmul dot_S1024x256_S1024x1024_S256x1024_0_1_1_0_n_n none (shapeCast S1024x256 y shapeCasts_S1x1024x256_S1024x256) w
      (constant S256x1024 .f32 0x00000000#32)) shapeCasts_S256x1024_S1x256x1024

/-- The stores of the output, one per batch, the last first. -/
def outputStores (y : Fin 2 → Vec F S1x1024x256 .f32) (w : Vec F S1024x1024 .f32) : List (View.Piece (Elt F) S2x256x1024 .f32) :=
  batches.map fun b => ⟨tokensRect b, output (y b) w⟩

/-- Both batches' outputs. -/
def outputAll (y : Vec F S2x1024x256 .f32) (w : Vec F S1024x1024 .f32) : Vec F S2x256x1024 .f32 :=
  fun j => output (View.ld y (planeRect (j 0))) w (ix3 (0 : Fin 1) (j 1) (j 2))

/-! ## The stores, read back -/

/-- Every head of every batch is listed. -/
theorem mem_heads : ∀ (b : Fin 2) (h : Fin 16), (b, h) ∈ heads := by decide

/-- Both batches are listed. -/
theorem mem_batches : ∀ b : Fin 2, b ∈ batches := by decide

/-- An index lies in its own head's cell. -/
theorem mem_cellRect (j : S2x16x64x64.Idx) : j ∈ (cellRect (j 0) (j 1)).set := by
  rw [Rect.mem_set_unit]
  intro a
  have h2 := (j 2).isLt
  have h3 := (j 3).isLt
  fin_cases a
  · exact ⟨le_refl _, Nat.lt_succ_self _⟩
  · exact ⟨le_refl _, Nat.lt_succ_self _⟩
  · exact ⟨Nat.zero_le _, by simpa using h2⟩
  · exact ⟨Nat.zero_le _, by simpa using h3⟩

/-- An index of the projected tokens lies in its own head's block. -/
theorem mem_blockRect (j : S2x1024x256.Idx) : j ∈ (blockRect (j 0) (headOf (j 1))).set := by
  rw [Rect.mem_set_unit]
  intro a
  have h1 : (j 1).val < 1024 := (j 1).isLt
  have h2 := (j 2).isLt
  fin_cases a
  · exact ⟨le_refl _, Nat.lt_succ_self _⟩
  · show 64 * ((j 1).val / 64) ≤ (j 1).val ∧ (j 1).val < 64 * ((j 1).val / 64) + 64
    omega
  · exact ⟨Nat.zero_le _, by simpa using h2⟩

/-- An index of the projected tokens lies in its own batch's plane. -/
theorem mem_planeRect (j : S2x1024x256.Idx) : j ∈ (planeRect (j 0)).set := by
  rw [Rect.mem_set_unit]
  intro a
  have h1 := (j 1).isLt
  have h2 := (j 2).isLt
  fin_cases a
  · exact ⟨le_refl _, Nat.lt_succ_self _⟩
  · exact ⟨Nat.zero_le _, by simpa using h1⟩
  · exact ⟨Nat.zero_le _, by simpa using h2⟩

/-- An index of a token block lies in its own batch. -/
theorem mem_tokensRect (j : S2x256x1024.Idx) : j ∈ (tokensRect (j 0)).set := by
  rw [Rect.mem_set_unit]
  intro a
  have h1 := (j 1).isLt
  have h2 := (j 2).isLt
  fin_cases a
  · exact ⟨le_refl _, Nat.lt_succ_self _⟩
  · exact ⟨Nat.zero_le _, by simpa using h1⟩
  · exact ⟨Nat.zero_le _, by simpa using h2⟩

end Cert.KernelIdeal.Head

end
-- ==== Proof.ReadBack.lean ====
/- The stores of one grid point, read back: which value each index of each buffer ends with. -/
module

public import proofs.«01_k».proof.Proof.Chunked
public import Idealize.ShloMosaic.Lib.WholeRead

@[expose] public section

set_option maxRecDepth 16384

noncomputable section

namespace Cert.KernelIdeal.Head

open Idealize.ShloMosaic Cert.KernelIdeal.Gen

variable {F : FTy → Type} [FloatOps F]

/-- What stores leave at an index that some of the later ones cover, when those agree with one function. -/
theorem canon_append {S : Shape} {e : EltTy} (G : S.Idx → Elt F e) (L' : List (View.Piece (Elt F) S e)) :
    ∀ L : List (View.Piece (Elt F) S e), (∀ p ∈ L, ∀ x : p.1.shape.Idx, p.2 x = G (p.1.emb x)) →
      ∀ y : S.Idx, (∃ p ∈ L, y ∈ p.1.set) → View.canon (L ++ L') y = G y
  | [], _, _, h => by obtain ⟨_, hm, _⟩ := h; exact absurd hm List.not_mem_nil
  | ⟨r, w⟩ :: L, hG, y, h => by
    rw [List.cons_append]
    by_cases hy : y ∈ r.set
    · obtain ⟨x, rfl⟩ : ∃ x, r.emb x = y := r.exists_idx_of_mem hy
      rw [View.canon_cons_emb]
      exact hG ⟨r, w⟩ List.mem_cons_self x
    · rw [View.canon_cons_of_not_mem _ _ hy]
      refine canon_append G L' L (fun p hp => hG p (List.mem_cons_of_mem _ hp)) y ?_
      obtain ⟨p, hm, hp⟩ := h
      rcases List.mem_cons.mp hm with rfl | hm
      · exact absurd hp hy
      · exact ⟨p, hm, hp⟩

/-- Stores that miss an index leave it as the earlier ones did. -/
theorem canon_append_miss {S : Shape} {e : EltTy} (L' : List (View.Piece (Elt F) S e)) (y : S.Idx) :
    ∀ L : List (View.Piece (Elt F) S e), (∀ p ∈ L, y ∉ p.1.set) → View.canon (L ++ L') y = View.canon L' y
  | [], _ => rfl
  | p :: L, h => by
    rw [List.cons_append, View.canon_cons_of_not_mem _ _ (h p List.mem_cons_self)]
    exact canon_append_miss L' y L fun q hq => h q (List.mem_cons_of_mem _ hq)

/-- Where a cell puts its own index. -/
theorem cell_emb (b : Fin 2) (h : Fin 16) (d e : Fin 64) :
    (cellRect b h).emb (ix4 (0 : Fin 1) (0 : Fin 1) d e) = (ix4 b h d e : S2x16x64x64.Idx) := by
  funext a; apply Fin.ext; fin_cases a
  · exact Nat.add_zero _
  · exact Nat.add_zero _
  · show 0 + 1 * d.val = d.val; omega
  · show 0 + 1 * e.val = e.val; omega

/-- The row of the projected tokens that is row `d` of head `h`. -/
def rowAt (h : Fin 16) (d : Fin 64) : Fin 1024 := ⟨64 * h + d, by have := h.isLt; have := d.isLt; omega⟩

/-- The head of a head's row. -/
theorem headOf_rowAt (h : Fin 16) (d : Fin 64) : headOf (rowAt h d) = h := Fin.ext (by
  show (64 * (h : ℕ) + d) / 64 = h; have := d.isLt; omega)

/-- The place of a head's row in the head. -/
theorem rowOf_rowAt (h : Fin 16) (d : Fin 64) : rowOf (rowAt h d) = d := Fin.ext (by
  show (64 * (h : ℕ) + d) % 64 = d; have := d.isLt; omega)

/-- A row is the row of its head and place. -/
theorem rowAt_headOf (r : Fin 1024) : rowAt (headOf r) (rowOf r) = r := Fin.ext (by
  show 64 * ((r : ℕ) / 64) + (r : ℕ) % 64 = r; omega)

/-- Where a block puts its own index. -/
theorem block_emb (b : Fin 2) (h : Fin 16) (d : Fin 64) (t : Fin 256) :
    (blockRect b h).emb (ix3 (0 : Fin 1) d t) = (ix3 b (rowAt h d) t : S2x1024x256.Idx) := by
  funext a; apply Fin.ext; fin_cases a
  · exact Nat.add_zero _
  · show 64 * h.val + 1 * d.val = 64 * h.val + d.val; omega
  · show 0 + 1 * t.val = t.val; omega

/-- Where a plane puts its own index. -/
theorem plane_emb (b : Fin 2) (r : Fin 1024) (t : Fin 256) :
    (planeRect b).emb (ix3 (0 : Fin 1) r t) = (ix3 b r t : S2x1024x256.Idx) := by
  funext a; apply Fin.ext; fin_cases a
  · exact Nat.add_zero _
  · show 0 + 1 * r.val = r.val; omega
  · show 0 + 1 * t.val = t.val; omega

/-- Where a batch of the token block puts its own index. -/
theorem tokens_emb (b : Fin 2) (t : Fin 256) (r : Fin 1024) :
    (tokensRect b).emb (ix3 (0 : Fin 1) t r) = (ix3 b t r : S2x256x1024.Idx) := by
  funext a; apply Fin.ext; fin_cases a
  · exact Nat.add_zero _
  · show 0 + 1 * t.val = t.val; omega
  · show 0 + 1 * r.val = r.val; omega

/-- An index of a 1 × n × m block. -/
theorem eq_unit3 {n m : ℕ} (x : (⟨3, ![1, n, m]⟩ : Shape).Idx) : x = ix3 (0 : Fin 1) (x 1) (x 2) := by
  funext a; fin_cases a
  · exact Subsingleton.elim (α := Fin 1) _ _
  · rfl
  · rfl

/-- An index of a 1 × 1 × n × m block. -/
theorem eq_unit4 {n m : ℕ} (x : (⟨4, ![1, 1, n, m]⟩ : Shape).Idx) : x = ix4 (0 : Fin 1) (0 : Fin 1) (x 2) (x 3) := by
  funext a; fin_cases a
  · exact Subsingleton.elim (α := Fin 1) _ _
  · exact Subsingleton.elim (α := Fin 1) _ _
  · rfl
  · rfl

/-- The states a point's stores leave, whatever was stored before. -/
theorem canon_stateStores (k v : Fin 2 → Fin 16 → Vec F S1x64x256 .f32) (s : Fin 2 → Fin 16 → Vec F S1x1x64x64 .f32) (ab : FVec F S2x16 .f32)
    (L : List (View.Piece (Elt F) S2x16x64x64 .f32)) (b : Fin 2) (h : Fin 16) (d e : Fin 64) :
    View.canon (stateStores k v s ab ++ L) (ix4 b h d e)
      = leaves (k b h) (v b h) (s b h) ab h (ix4 (0 : Fin 1) (0 : Fin 1) d e) := by
  refine (canon_append (fun j : S2x16x64x64.Idx => leaves (k (j 0) (j 1)) (v (j 0) (j 1)) (s (j 0) (j 1)) ab (j 1)
    (ix4 (0 : Fin 1) (0 : Fin 1) (j 2) (j 3))) L _ ?_ (ix4 b h d e) ?_).trans rfl
  · intro p hp x
    obtain ⟨⟨b', h'⟩, -, rfl⟩ := List.mem_map.mp hp
    rw [eq_unit4 (n := 64) (m := 64) x]
    exact (congrArg (fun j : S2x16x64x64.Idx => leaves (k (j 0) (j 1)) (v (j 0) (j 1)) (s (j 0) (j 1)) ab (j 1)
      (ix4 (0 : Fin 1) (0 : Fin 1) (j 2) (j 3))) (cell_emb b' h' (x 2) (x 3))).symm
  · exact ⟨_, List.mem_map.mpr ⟨(b, h), mem_heads b h, rfl⟩, mem_cellRect (ix4 b h d e)⟩

/-- A read, addressed by its row among all heads'. -/
theorem reads_rowAt (q k v : Fin 2 → Fin 16 → Vec F S1x64x256 .f32) (s : Fin 2 → Fin 16 → Vec F S1x1x64x64 .f32) (ab : FVec F S2x16 .f32)
    (b : Fin 2) (h : Fin 16) (d : Fin 64) (t : Fin 256) :
    reads (q b h) (k b h) (v b h) (s b h) ab h (ix3 (0 : Fin 1) d t)
      = reads (q b (headOf (rowAt h d))) (k b (headOf (rowAt h d))) (v b (headOf (rowAt h d))) (s b (headOf (rowAt h d))) ab
        (headOf (rowAt h d)) (ix3 (0 : Fin 1) (rowOf (rowAt h d)) t) := by
  rw [headOf_rowAt, rowOf_rowAt]

/-- The reads a point's stores leave. -/
theorem canon_readStores (q k v : Fin 2 → Fin 16 → Vec F S1x64x256 .f32) (s : Fin 2 → Fin 16 → Vec F S1x1x64x64 .f32) (ab : FVec F S2x16 .f32)
    (j : S2x1024x256.Idx) :
    View.canon (readStores q k v s ab) j
      = reads (q (j 0) (headOf (j 1))) (k (j 0) (headOf (j 1))) (v (j 0) (headOf (j 1))) (s (j 0) (headOf (j 1))) ab (headOf (j 1))
        (ix3 (0 : Fin 1) (rowOf (j 1)) (j 2)) := by
  rw [← List.append_nil (readStores q k v s ab)]
  refine canon_append (S := S2x1024x256) (e := .f32) (fun j : S2x1024x256.Idx => reads (q (j 0) (headOf (j 1))) (k (j 0) (headOf (j 1))) (v (j 0) (headOf (j 1)))
    (s (j 0) (headOf (j 1))) ab (headOf (j 1)) (ix3 (0 : Fin 1) (rowOf (j 1)) (j 2))) [] _ ?_ j ?_
  · intro p hp x
    obtain ⟨⟨b', h'⟩, -, rfl⟩ := List.mem_map.mp hp
    rw [eq_unit3 (n := 64) (m := 256) x]
    refine Eq.trans ?_ (congrArg (fun j : S2x1024x256.Idx => reads (q (j 0) (headOf (j 1))) (k (j 0) (headOf (j 1)))
      (v (j 0) (headOf (j 1))) (s (j 0) (headOf (j 1))) ab (headOf (j 1)) (ix3 (0 : Fin 1) (rowOf (j 1)) (j 2)))
        (block_emb b' h' (x 1) (x 2))).symm
    exact reads_rowAt q k v s ab b' h' (x 1) (x 2)
  · exact ⟨_, List.mem_map.mpr ⟨(j 0, headOf (j 1)), mem_heads _ _, rfl⟩, mem_blockRect j⟩

/-- What a projection's stores leave. -/
theorem canon_projectStores (w : Vec F S1024x1024 .f32) (x : Fin 2 → Vec F S1x256x1024 .f32) (j : S2x1024x256.Idx) :
    View.canon (projectStores w x) j = project w (x (j 0)) (ix3 (0 : Fin 1) (j 1) (j 2)) := by
  have H : ∀ (b : Fin 2) (y : S1x1024x256.Idx), project w (x b) y
      = (fun j : S2x1024x256.Idx => project w (x (j 0)) (ix3 (0 : Fin 1) (j 1) (j 2))) ((planeRect b).emb y) := fun b y => by
    rw [eq_unit3 (n := 1024) (m := 256) y]
    exact (congrArg (fun j : S2x1024x256.Idx => project w (x (j 0)) (ix3 (0 : Fin 1) (j 1) (j 2))) (plane_emb b (y 1) (y 2))).symm
  rw [← List.append_nil (projectStores w x)]
  refine canon_append (S := S2x1024x256) (e := .f32) (fun j : S2x1024x256.Idx => project w (x (j 0)) (ix3 (0 : Fin 1) (j 1) (j 2))) [] _ ?_ j ?_
  · intro p hp z
    obtain ⟨b, -, rfl⟩ := List.mem_map.mp hp
    exact H b z
  · exact ⟨_, List.mem_map.mpr ⟨j 0, mem_batches (j 0), rfl⟩, mem_planeRect j⟩

/-- What the output's stores leave. -/
theorem canon_outputStores (y : Fin 2 → Vec F S1x1024x256 .f32) (w : Vec F S1024x1024 .f32) (j : S2x256x1024.Idx) :
    View.canon (outputStores y w) j = output (y (j 0)) w (ix3 (0 : Fin 1) (j 1) (j 2)) := by
  have H : ∀ (b : Fin 2) (z : S1x256x1024.Idx), output (y b) w z
      = (fun j : S2x256x1024.Idx => output (y (j 0)) w (ix3 (0 : Fin 1) (j 1) (j 2))) ((tokensRect b).emb z) := fun b z => by
    rw [eq_unit3 (n := 256) (m := 1024) z]
    exact (congrArg (fun j : S2x256x1024.Idx => output (y (j 0)) w (ix3 (0 : Fin 1) (j 1) (j 2))) (tokens_emb b (z 1) (z 2))).symm
  rw [← List.append_nil (outputStores y w)]
  refine canon_append (S := S2x256x1024) (e := .f32) (fun j : S2x256x1024.Idx => output (y (j 0)) w (ix3 (0 : Fin 1) (j 1) (j 2))) [] _ ?_ j ?_
  · intro p hp z
    obtain ⟨b, -, rfl⟩ := List.mem_map.mp hp
    exact H b z
  · exact ⟨_, List.mem_map.mpr ⟨j 0, mem_batches (j 0), rfl⟩, mem_tokensRect j⟩

/-! ## Whole points -/

/-- A weight matrix read whole is itself. -/
theorem ld_weight (w : Vec F S1024x1024 .f32) : View.ld w (Rect.unit ![0, 0] S1024x1024.size inb_S1024x1024_S1024x1024_0_0) = w := by
  funext j
  refine congrArg w ?_
  funext a; apply Fin.ext; fin_cases a
  · show 0 + 1 * (j 0).val = (j 0).val; omega
  · show 0 + 1 * (j 1).val = (j 1).val; omega

/-- The table of raw rates read whole is itself. -/
theorem ld_table (w : Vec F S2x16 .f32) : View.ld w (Rect.unit ![0, 0] S2x16.size inb_S2x16_S2x16_0_0) = w := by
  funext j
  refine congrArg w ?_
  funext a; apply Fin.ext; fin_cases a
  · show 0 + 1 * (j 0).val = (j 0).val; omega
  · show 0 + 1 * (j 1).val = (j 1).val; omega

/-- The states read whole are themselves. -/
theorem ld_states (w : Vec F S2x16x64x64 .f32) :
    View.ld w (Rect.unit ![0, 0, 0, 0] S2x16x64x64.size inb_S2x16x64x64_S2x16x64x64_0_0_0_0) = w := by
  funext j
  refine congrArg w ?_
  funext a; apply Fin.ext; fin_cases a
  · show 0 + 1 * (j 0).val = (j 0).val; omega
  · show 0 + 1 * (j 1).val = (j 1).val; omega
  · show 0 + 1 * (j 2).val = (j 2).val; omega
  · show 0 + 1 * (j 3).val = (j 3).val; omega

/-- A projection's stores, read back whole. -/
theorem canon_projectStores_eq (w : Vec F S1024x1024 .f32) (x : Vec F S2x256x1024 .f32) :
    View.canon (projectStores w fun b => View.ld x (tokensRect b)) = projected w x :=
  funext fun j => canon_projectStores w _ j

/-- The states a point leaves, when its head blocks are read from the arrays `k`, `v` and `s`. -/
theorem canon_leave (k v : Vec F S2x1024x256 .f32) (s : Vec F S2x16x64x64 .f32) (ab : FVec F S2x16 .f32)
    (kk vv : Fin 2 → Fin 16 → Vec F S1x64x256 .f32) (ss : Fin 2 → Fin 16 → Vec F S1x1x64x64 .f32)
    (hk : ∀ b h, kk b h = View.ld k (blockRect b h)) (hv : ∀ b h, vv b h = View.ld v (blockRect b h))
    (hs : ∀ b h, ss b h = View.ld s (cellRect b h)) (L : List (View.Piece (Elt F) S2x16x64x64 .f32)) :
    View.canon (stateStores kk vv ss ab ++ L) = leaveAll k v s ab := by
  obtain rfl : kk = fun b h => View.ld k (blockRect b h) := funext fun b => funext fun h => hk b h
  obtain rfl : vv = fun b h => View.ld v (blockRect b h) := funext fun b => funext fun h => hv b h
  obtain rfl : ss = fun b h => View.ld s (cellRect b h) := funext fun b => funext fun h => hs b h
  funext j
  conv_lhs => rw [eq_ix4 j]
  exact canon_stateStores _ _ _ ab L (j 0) (j 1) (j 2) (j 3)

/-- The reads a point leaves, likewise. -/
theorem canon_read (q k v : Vec F S2x1024x256 .f32) (s : Vec F S2x16x64x64 .f32) (ab : FVec F S2x16 .f32)
    (qq kk vv : Fin 2 → Fin 16 → Vec F S1x64x256 .f32) (ss : Fin 2 → Fin 16 → Vec F S1x1x64x64 .f32)
    (hq : ∀ b h, qq b h = View.ld q (blockRect b h)) (hk : ∀ b h, kk b h = View.ld k (blockRect b h))
    (hv : ∀ b h, vv b h = View.ld v (blockRect b h)) (hs : ∀ b h, ss b h = View.ld s (cellRect b h)) :
    View.canon (readStores qq kk vv ss ab) = readAll q k v s ab := by
  obtain rfl : qq = fun b h => View.ld q (blockRect b h) := funext fun b => funext fun h => hq b h
  obtain rfl : kk = fun b h => View.ld k (blockRect b h) := funext fun b => funext fun h => hk b h
  obtain rfl : vv = fun b h => View.ld v (blockRect b h) := funext fun b => funext fun h => hv b h
  obtain rfl : ss = fun b h => View.ld s (cellRect b h) := funext fun b => funext fun h => hs b h
  exact funext fun j => canon_readStores _ _ _ _ ab j

/-- The output a point leaves, when its batches' reads come from the array `y`. -/
theorem canon_output (y : Vec F S2x1024x256 .f32) (w : Vec F S1024x1024 .f32) (yy : Fin 2 → Vec F S1x1024x256 .f32)
    (hy : ∀ b, yy b = View.ld y (planeRect b)) : View.canon (outputStores yy w) = outputAll y w := by
  obtain rfl : yy = fun b => View.ld y (planeRect b) := funext fun b => hy b
  exact funext fun j => canon_outputStores _ w j

/-- A load of stored contents through a rectangle reads what the stores leave there. -/
theorem readCov_ld {κ : Kind} {sp : Space} {S : Shape} {e : EltTy} (v : View sig κ sp S e) (L : List (View.Piece (Elt F) S e))
    (X : S.Idx → Elt F e) (r : Rect S) (h : View.canon L = X) : v.readCov L r.toLoadRect = View.ld X r := by
  rw [View.readCov_eq_canon', h]

/-- A load of a whole buffer's contents through a rectangle. -/
theorem readAt_ld {κ : Kind} {sp : Space} {S : Shape} {e : EltTy} {M : Memref sig κ sp S e} (hM : M.IsWhole) (X : S.Idx → Elt F e)
    (r : Rect S) : View.readAt (Elt F) M.view r.toLoadRect (hM.unread X) = View.ld X r :=
  funext fun x => hM.readAt_unread X r.toLoadRect x

/-- A weight matrix as a point loads it. -/
abbrev weight (M : Memref sig .tc .vmem S1024x1024 .f32) (hM : M.IsWhole) (w : Vec F S1024x1024 .f32) : Vec F S1024x1024 .f32 :=
  View.readAt (Elt F) M.view (Rect.unit ![0, 0] S1024x1024.size inb_S1024x1024_S1024x1024_0_0).toLoadRect (hM.unread w)

/-- The two batches of the token block as a point loads them. -/
abbrev tokens (M : Memref sig .tc .vmem S2x256x1024 .f32) (hM : M.IsWhole) (x : Vec F S2x256x1024 .f32) : Fin 2 → Vec F S1x256x1024 .f32 :=
  fun b => View.readAt (Elt F) M.view (tokensRect b).toLoadRect (hM.unread x)

/-- The table of raw rates as a point loads it. -/
abbrev table (M : Memref sig .tc .vmem S2x16 .f32) (hM : M.IsWhole) (x : Vec F S2x16 .f32) : Vec F S2x16 .f32 :=
  View.readAt (Elt F) M.view (Rect.unit ![0, 0] S2x16.size inb_S2x16_S2x16_0_0).toLoadRect (hM.unread x)

/-- A weight's block as loaded is the block. -/
theorem weight_eq {M : Memref sig .tc .vmem S1024x1024 .f32} (hM : M.IsWhole) (w : Vec F S1024x1024 .f32) : weight M hM w = w :=
  (readAt_ld hM w _).trans (ld_weight w)

/-- The table of raw rates as loaded is the table. -/
theorem table_eq {M : Memref sig .tc .vmem S2x16 .f32} (hM : M.IsWhole) (x : Vec F S2x16 .f32) : table M hM x = x :=
  (readAt_ld hM x _).trans (ld_table x)

/-- The projected tokens, read back whole. -/
theorem canon_projections {M : Memref sig .tc .vmem S1024x1024 .f32} (hM : M.IsWhole) {X : Memref sig .tc .vmem S2x256x1024 .f32}
    (hX : X.IsWhole) (w : Vec F S1024x1024 .f32) (x : Vec F S2x256x1024 .f32) :
    View.canon (projectStores (weight M hM w) (tokens X hX x)) = projected w x := by
  rw [weight_eq hM w, show tokens X hX x = fun b => View.ld x (tokensRect b) from funext fun b => readAt_ld hX x (tokensRect b)]
  exact canon_projectStores_eq w x

/-- One store of all states leaves exactly them. -/
theorem canon_states (w : Vec F S2x16x64x64 .f32) :
    View.canon ([⟨Rect.unit ![0, 0, 0, 0] S2x16x64x64.size inb_S2x16x64x64_S2x16x64x64_0_0_0_0, w⟩] : List (View.Piece (Elt F) S2x16x64x64 .f32))
      = w := by
  funext j
  have h := View.canon_cons_emb (Val := Elt F) (Rect.unit ![0, 0, 0, 0] S2x16x64x64.size inb_S2x16x64x64_S2x16x64x64_0_0_0_0) w [] j
  have hj : (Rect.unit ![0, 0, 0, 0] S2x16x64x64.size inb_S2x16x64x64_S2x16x64x64_0_0_0_0).emb j = j := by
    funext a; apply Fin.ext; fin_cases a
    · show 0 + 1 * (j 0).val = (j 0).val; omega
    · show 0 + 1 * (j 1).val = (j 1).val; omega
    · show 0 + 1 * (j 2).val = (j 2).val; omega
    · show 0 + 1 * (j 3).val = (j 3).val; omega
  rw [hj] at h
  exact h

end Cert.KernelIdeal.Head

end
-- ==== Proof.FirstStates.lean ====
/- What the first chunk of two batches finds as the heads' states: it copies the given states into the carried buffer, and
   then every head finds its own, whatever the heads before it stored. -/
module

public import proofs.«01_k».proof.Proof.ReadBack

@[expose] public section

set_option maxRecDepth 16384

noncomputable section

namespace Cert.KernelIdeal.Head

open Idealize.ShloMosaic Cert.KernelIdeal.Gen

variable {F : FTy → Type} [FloatOps F]

/-- The copy changes nothing. -/
theorem copy_eq (x : Vec F S2x16x64x64 .f32) : k0_pay3 x = x := shapeCast_self _ _

/-- The copy of the given states into the carried buffer. -/
def initStore (M : Memref sig .tc .vmem S2x16x64x64 .f32) (hM : M.IsWhole) (x : Vec F S2x16x64x64 .f32) :
    List (View.Piece (Elt F) S2x16x64x64 .f32) :=
  [⟨Rect.unit ![0, 0, 0, 0] S2x16x64x64.size inb_S2x16x64x64_S2x16x64x64_0_0_0_0,
    k0_pay3 (View.readAt (Elt F) M.view (Rect.unit ![0, 0, 0, 0] S2x16x64x64.size inb_S2x16x64x64_S2x16x64x64_0_0_0_0).toLoadRect (hM.unread x))⟩]

/-- The first point's store of the states given, read back. -/
theorem canon_initStore (M : Memref sig .tc .vmem S2x16x64x64 .f32) (hM : M.IsWhole) (x : Vec F S2x16x64x64 .f32) :
    View.canon (initStore M hM x) = x :=
  (canon_states _).trans ((copy_eq _).trans ((readAt_ld hM x _).trans (ld_states x)))

/-- The heads of the first batch, the last first. -/
def firstHeads : List (Fin 16) := [15, 14, 13, 12, 11, 10, 9, 8, 7, 6, 5, 4, 3, 2, 1, 0]

variable (M8 : Memref sig .tc .vmem S2x16x64x64 .f32) (h8 : M8.IsWhole) (M11 : Memref sig .tc .vmem S2x16x64x64 .f32)
  (M13 M14 : Memref sig .tc .vmem S2x1024x256 .f32) (Lk Lv : List (View.Piece (Elt F) S2x1024x256 .f32)) (ab : Vec F S2x16 .f32)
  (x : Vec F S2x16x64x64 .f32)

/-- The stores before the second batch: the first batch's heads over the copy. -/
def firstStores : List (View.Piece (Elt F) S2x16x64x64 .f32) :=
  (firstHeads.map fun h => ⟨cellRect 0 h, leaves (M13.view.readCov Lk (blockRect 0 h).toLoadRect) (M14.view.readCov Lv (blockRect 0 h).toLoadRect)
    (M11.view.readCov (initStore M8 h8 x) (cellRect 0 h).toLoadRect) (k0_pay15 ab) h⟩) ++ initStore M8 h8 x

/-- The state each head finds. -/
def statesFound (b : Fin 2) (h : Fin 16) : Vec F S1x1x64x64 .f32 :=
  M11.view.readCov (match b with
    | 0 => initStore M8 h8 x
    | 1 => firstStores M8 h8 M11 M13 M14 Lk Lv ab x) (cellRect b h).toLoadRect

/-- Every head finds its given state. -/
theorem statesFound_eq (b : Fin 2) (h : Fin 16) :
    statesFound M8 h8 M11 M13 M14 Lk Lv ab x b h = View.ld x (cellRect b h) := by
  match b with
  | 0 => exact readCov_ld _ _ _ _ (canon_initStore M8 h8 x)
  | 1 =>
    refine (View.readCov_eq_canon' _ _ _).trans (funext fun j => ?_)
    refine (canon_append_miss _ _ _ ?_).trans (congrFun (canon_initStore M8 h8 x) _)
    intro p hp hm
    obtain ⟨h', -, rfl⟩ := List.mem_map.mp hp
    have h0 := ((Rect.mem_set_unit (inb := cell_inb 0 h')).mp hm 0).2
    have : ((cellRect 1 h).toLoadRect.idx j 0).val = 1 + 1 * (j 0).val := rfl
    change ((cellRect 1 h).toLoadRect.idx j 0).val < 0 + 1 at h0
    omega

end Cert.KernelIdeal.Head

end
-- ==== Proof.StoresA.lean ====
/- What the first chunk of its batches, which starts from the given states, leaves: the states in the carried buffer and
   the output block, as functions of the blocks it is given. -/
module

public import proofs.«01_k».proof.Proof.FirstStates
public import proofs.«01_k».proof.Proof.Gen.KernelIdeal.Frame

@[expose] public section

set_option maxRecDepth 16384

noncomputable section

namespace Cert.KernelIdeal.Head

open Idealize.ShloMosaic Idealize.ShloMosaic.TcCoe Cert.KernelIdeal.Gen

variable {F : FTy → Type} [FloatOps F]
variable (c : Dev nD) (i : grid0.Coords)
  (arg2 : Memref sig .tc .vmem S2x256x1024 .f32) (harg2 : arg2.IsWhole) (arg3 : Memref sig .tc .vmem S1024x1024 .f32) (harg3 : arg3.IsWhole)
  (arg4 : Memref sig .tc .vmem S1024x1024 .f32) (harg4 : arg4.IsWhole) (arg5 : Memref sig .tc .vmem S1024x1024 .f32) (harg5 : arg5.IsWhole)
  (arg6 : Memref sig .tc .vmem S1024x1024 .f32) (harg6 : arg6.IsWhole) (arg7 : Memref sig .tc .vmem S2x16 .f32) (harg7 : arg7.IsWhole)
  (arg8 : Memref sig .tc .vmem S2x16x64x64 .f32) (harg8 : arg8.IsWhole) (arg9 : Memref sig .tc .vmem S2x256x1024 .f32) (harg9 : arg9.IsWhole)
  (arg10 : Memref sig .tc .vmem S2x16x64x64 .f32) (harg10 : arg10.IsWhole) (arg11 : Memref sig .tc .vmem S2x16x64x64 .f32) (harg11 : arg11.IsWhole)
  (arg12 : Memref sig .tc .vmem S2x1024x256 .f32) (harg12 : arg12.IsWhole) (arg13 : Memref sig .tc .vmem S2x1024x256 .f32) (harg13 : arg13.IsWhole)
  (arg14 : Memref sig .tc .vmem S2x1024x256 .f32) (harg14 : arg14.IsWhole) (arg15 : Memref sig .tc .vmem S2x1024x256 .f32) (harg15 : arg15.IsWhole)
  (hc0 : cond0_0 i) (hc1 : ¬cond0_1 i)
  (x0 : Vec F S2x256x1024 .f32) (x1 x2 x3 x4 : Vec F S1024x1024 .f32) (x5 : Vec F S2x16 .f32) (x6 : Vec F S2x16x64x64 .f32)

/-- The stores into the carried states, told by head. -/
theorem stateStores_A :
    (kernelRun0_A c i arg2 harg2 arg3 harg3 arg4 harg4 arg5 harg5 arg6 harg6 arg7 harg7 arg8 harg8 arg9 harg9 arg10 harg10
      arg11 harg11 arg12 harg12 arg13 harg13 arg14 harg14 arg15 harg15 hc0 hc1 x0 x1 x2 x3 x4 x5 x6).2.2.1
      = stateStores (fun b h => arg13.view.readCov (projectStores (weight arg4 harg4 x2) (tokens arg2 harg2 x0)) (blockRect b h).toLoadRect)
          (fun b h => arg14.view.readCov (projectStores (weight arg5 harg5 x3) (tokens arg2 harg2 x0)) (blockRect b h).toLoadRect)
          (statesFound arg8 harg8 arg11 arg13 arg14 (projectStores (weight arg4 harg4 x2) (tokens arg2 harg2 x0)) (projectStores (weight arg5 harg5 x3) (tokens arg2 harg2 x0)) (table arg7 harg7 x5) x6)
          (k0_pay15 (table arg7 harg7 x5)) ++ initStore arg8 harg8 x6 := by
  rfl

/-- The stores into the output block, told by head. -/
theorem outputStores_A :
    (kernelRun0_A c i arg2 harg2 arg3 harg3 arg4 harg4 arg5 harg5 arg6 harg6 arg7 harg7 arg8 harg8 arg9 harg9 arg10 harg10
      arg11 harg11 arg12 harg12 arg13 harg13 arg14 harg14 arg15 harg15 hc0 hc1 x0 x1 x2 x3 x4 x5 x6).1
      = outputStores (fun b => arg15.view.readCov
          (readStores (fun b h => arg12.view.readCov (projectStores (weight arg3 harg3 x1) (tokens arg2 harg2 x0)) (blockRect b h).toLoadRect)
            (fun b h => arg13.view.readCov (projectStores (weight arg4 harg4 x2) (tokens arg2 harg2 x0)) (blockRect b h).toLoadRect)
            (fun b h => arg14.view.readCov (projectStores (weight arg5 harg5 x3) (tokens arg2 harg2 x0)) (blockRect b h).toLoadRect)
            (statesFound arg8 harg8 arg11 arg13 arg14 (projectStores (weight arg4 harg4 x2) (tokens arg2 harg2 x0)) (projectStores (weight arg5 harg5 x3) (tokens arg2 harg2 x0)) (table arg7 harg7 x5) x6)
            (k0_pay15 (table arg7 harg7 x5))) (planeRect b).toLoadRect) (weight arg6 harg6 x4) := by
  rfl

/-- The states the point leaves in the carried buffer. -/
theorem sout0_A_0_eq :
    sout0_A_0 c i arg2 harg2 arg3 harg3 arg4 harg4 arg5 harg5 arg6 harg6 arg7 harg7 arg8 harg8 arg9 harg9 arg10 harg10
      arg11 harg11 arg12 harg12 arg13 harg13 arg14 harg14 arg15 harg15 hc0 hc1 x0 x1 x2 x3 x4 x5 x6
      = leaveAll (projected x2 x0) (projected x3 x0) x6 (k0_pay15 x5) := by
  refine (View.read_writes_junk_eq_canon _ _).trans ?_
  rw [stateStores_A, table_eq]
  exact canon_leave _ _ _ _ _ _ _ (fun b h => readCov_ld _ _ _ _ (canon_projections harg4 harg2 x2 x0))
    (fun b h => readCov_ld _ _ _ _ (canon_projections harg5 harg2 x3 x0)) (fun b h => statesFound_eq ..) _

/-- The output block the point leaves. -/
theorem out0_A_7_eq :
    out0_A_7 c i arg2 harg2 arg3 harg3 arg4 harg4 arg5 harg5 arg6 harg6 arg7 harg7 arg8 harg8 arg9 harg9 arg10 harg10
      arg11 harg11 arg12 harg12 arg13 harg13 arg14 harg14 arg15 harg15 hc0 hc1 x0 x1 x2 x3 x4 x5 x6
      = outputAll (readAll (projected x1 x0) (projected x2 x0) (projected x3 x0) x6 (k0_pay15 x5)) x4 := by
  refine (View.read_writes_junk_eq_canon _ _).trans ?_
  rw [outputStores_A, table_eq, weight_eq harg6]
  exact canon_output _ _ _ fun b => readCov_ld _ _ _ _
    (canon_read _ _ _ _ _ _ _ _ _ (fun b h => readCov_ld _ _ _ _ (canon_projections harg3 harg2 x1 x0))
      (fun b h => readCov_ld _ _ _ _ (canon_projections harg4 harg2 x2 x0))
      (fun b h => readCov_ld _ _ _ _ (canon_projections harg5 harg2 x3 x0)) (fun b h => statesFound_eq ..))

end Cert.KernelIdeal.Head

end
-- ==== Proof.StoresB.lean ====
/- What a middle chunk (neither the first nor the last of its batches), leaves: the states in the carried buffer and
   the output block, as functions of the blocks it is given. -/
module

public import proofs.«01_k».proof.Proof.ReadBack
public import proofs.«01_k».proof.Proof.Gen.KernelIdeal.Frame

@[expose] public section

set_option maxRecDepth 16384

noncomputable section

namespace Cert.KernelIdeal.Head

open Idealize.ShloMosaic Idealize.ShloMosaic.TcCoe Cert.KernelIdeal.Gen

variable {F : FTy → Type} [FloatOps F]
variable (c : Dev nD) (i : grid0.Coords)
  (arg2 : Memref sig .tc .vmem S2x256x1024 .f32) (harg2 : arg2.IsWhole) (arg3 : Memref sig .tc .vmem S1024x1024 .f32) (harg3 : arg3.IsWhole)
  (arg4 : Memref sig .tc .vmem S1024x1024 .f32) (harg4 : arg4.IsWhole) (arg5 : Memref sig .tc .vmem S1024x1024 .f32) (harg5 : arg5.IsWhole)
  (arg6 : Memref sig .tc .vmem S1024x1024 .f32) (harg6 : arg6.IsWhole) (arg7 : Memref sig .tc .vmem S2x16 .f32) (harg7 : arg7.IsWhole)
  (arg8 : Memref sig .tc .vmem S2x16x64x64 .f32) (harg8 : arg8.IsWhole) (arg9 : Memref sig .tc .vmem S2x256x1024 .f32) (harg9 : arg9.IsWhole)
  (arg10 : Memref sig .tc .vmem S2x16x64x64 .f32) (harg10 : arg10.IsWhole) (arg11 : Memref sig .tc .vmem S2x16x64x64 .f32) (harg11 : arg11.IsWhole)
  (arg12 : Memref sig .tc .vmem S2x1024x256 .f32) (harg12 : arg12.IsWhole) (arg13 : Memref sig .tc .vmem S2x1024x256 .f32) (harg13 : arg13.IsWhole)
  (arg14 : Memref sig .tc .vmem S2x1024x256 .f32) (harg14 : arg14.IsWhole) (arg15 : Memref sig .tc .vmem S2x1024x256 .f32) (harg15 : arg15.IsWhole)
  (hc0 : ¬cond0_0 i) (hc1 : ¬cond0_1 i)
  (x0 : Vec F S2x256x1024 .f32) (x1 x2 x3 x4 : Vec F S1024x1024 .f32) (x5 : Vec F S2x16 .f32) (x6 xs0 : Vec F S2x16x64x64 .f32)

/-- The stores into the carried states, told by head. -/
theorem stateStores_B :
    (kernelRun0_B c i arg2 harg2 arg3 harg3 arg4 harg4 arg5 harg5 arg6 harg6 arg7 harg7 arg8 harg8 arg9 harg9 arg10 harg10
      arg11 harg11 arg12 harg12 arg13 harg13 arg14 harg14 arg15 harg15 hc0 hc1 x0 x1 x2 x3 x4 x5 x6 xs0).2.2.1
      = stateStores (fun b h => arg13.view.readCov (projectStores (weight arg4 harg4 x2) (tokens arg2 harg2 x0)) (blockRect b h).toLoadRect)
          (fun b h => arg14.view.readCov (projectStores (weight arg5 harg5 x3) (tokens arg2 harg2 x0)) (blockRect b h).toLoadRect)
          (fun b h => View.readAt (Elt F) arg11.view (cellRect b h).toLoadRect (harg11.unread xs0))
          (k0_pay15 (table arg7 harg7 x5)) ++ [] := by
  rfl

/-- The stores into the output block, told by head. -/
theorem outputStores_B :
    (kernelRun0_B c i arg2 harg2 arg3 harg3 arg4 harg4 arg5 harg5 arg6 harg6 arg7 harg7 arg8 harg8 arg9 harg9 arg10 harg10
      arg11 harg11 arg12 harg12 arg13 harg13 arg14 harg14 arg15 harg15 hc0 hc1 x0 x1 x2 x3 x4 x5 x6 xs0).1
      = outputStores (fun b => arg15.view.readCov
          (readStores (fun b h => arg12.view.readCov (projectStores (weight arg3 harg3 x1) (tokens arg2 harg2 x0)) (blockRect b h).toLoadRect)
            (fun b h => arg13.view.readCov (projectStores (weight arg4 harg4 x2) (tokens arg2 harg2 x0)) (blockRect b h).toLoadRect)
            (fun b h => arg14.view.readCov (projectStores (weight arg5 harg5 x3) (tokens arg2 harg2 x0)) (blockRect b h).toLoadRect)
            (fun b h => View.readAt (Elt F) arg11.view (cellRect b h).toLoadRect (harg11.unread xs0))
            (k0_pay15 (table arg7 harg7 x5))) (planeRect b).toLoadRect) (weight arg6 harg6 x4) := by
  rfl

/-- The states the point leaves in the carried buffer. -/
theorem sout0_B_0_eq :
    sout0_B_0 c i arg2 harg2 arg3 harg3 arg4 harg4 arg5 harg5 arg6 harg6 arg7 harg7 arg8 harg8 arg9 harg9 arg10 harg10
      arg11 harg11 arg12 harg12 arg13 harg13 arg14 harg14 arg15 harg15 hc0 hc1 x0 x1 x2 x3 x4 x5 x6 xs0
      = leaveAll (projected x2 x0) (projected x3 x0) xs0 (k0_pay15 x5) := by
  refine (View.read_writes_junk_eq_canon _ _).trans ?_
  rw [stateStores_B, table_eq]
  exact canon_leave _ _ _ _ _ _ _ (fun b h => readCov_ld _ _ _ _ (canon_projections harg4 harg2 x2 x0))
    (fun b h => readCov_ld _ _ _ _ (canon_projections harg5 harg2 x3 x0)) (fun b h => readAt_ld harg11 xs0 (cellRect b h)) _

/-- The output block the point leaves. -/
theorem out0_B_7_eq :
    out0_B_7 c i arg2 harg2 arg3 harg3 arg4 harg4 arg5 harg5 arg6 harg6 arg7 harg7 arg8 harg8 arg9 harg9 arg10 harg10
      arg11 harg11 arg12 harg12 arg13 harg13 arg14 harg14 arg15 harg15 hc0 hc1 x0 x1 x2 x3 x4 x5 x6 xs0
      = outputAll (readAll (projected x1 x0) (projected x2 x0) (projected x3 x0) xs0 (k0_pay15 x5)) x4 := by
  refine (View.read_writes_junk_eq_canon _ _).trans ?_
  rw [outputStores_B, table_eq, weight_eq harg6]
  exact canon_output _ _ _ fun b => readCov_ld _ _ _ _
    (canon_read _ _ _ _ _ _ _ _ _ (fun b h => readCov_ld _ _ _ _ (canon_projections harg3 harg2 x1 x0))
      (fun b h => readCov_ld _ _ _ _ (canon_projections harg4 harg2 x2 x0))
      (fun b h => readCov_ld _ _ _ _ (canon_projections harg5 harg2 x3 x0)) (fun b h => readAt_ld harg11 xs0 (cellRect b h)))

end Cert.KernelIdeal.Head

end
-- ==== Proof.StoresC.lean ====
/- What the last chunk of its batches, which also hands the states out, leaves: the states in the carried buffer and
   the output block, as functions of the blocks it is given. -/
module

public import proofs.«01_k».proof.Proof.ReadBack
public import proofs.«01_k».proof.Proof.Gen.KernelIdeal.Frame

@[expose] public section

set_option maxRecDepth 16384

noncomputable section

namespace Cert.KernelIdeal.Head

open Idealize.ShloMosaic Idealize.ShloMosaic.TcCoe Cert.KernelIdeal.Gen

variable {F : FTy → Type} [FloatOps F]
variable (c : Dev nD) (i : grid0.Coords)
  (arg2 : Memref sig .tc .vmem S2x256x1024 .f32) (harg2 : arg2.IsWhole) (arg3 : Memref sig .tc .vmem S1024x1024 .f32) (harg3 : arg3.IsWhole)
  (arg4 : Memref sig .tc .vmem S1024x1024 .f32) (harg4 : arg4.IsWhole) (arg5 : Memref sig .tc .vmem S1024x1024 .f32) (harg5 : arg5.IsWhole)
  (arg6 : Memref sig .tc .vmem S1024x1024 .f32) (harg6 : arg6.IsWhole) (arg7 : Memref sig .tc .vmem S2x16 .f32) (harg7 : arg7.IsWhole)
  (arg8 : Memref sig .tc .vmem S2x16x64x64 .f32) (harg8 : arg8.IsWhole) (arg9 : Memref sig .tc .vmem S2x256x1024 .f32) (harg9 : arg9.IsWhole)
  (arg10 : Memref sig .tc .vmem S2x16x64x64 .f32) (harg10 : arg10.IsWhole) (arg11 : Memref sig .tc .vmem S2x16x64x64 .f32) (harg11 : arg11.IsWhole)
  (arg12 : Memref sig .tc .vmem S2x1024x256 .f32) (harg12 : arg12.IsWhole) (arg13 : Memref sig .tc .vmem S2x1024x256 .f32) (harg13 : arg13.IsWhole)
  (arg14 : Memref sig .tc .vmem S2x1024x256 .f32) (harg14 : arg14.IsWhole) (arg15 : Memref sig .tc .vmem S2x1024x256 .f32) (harg15 : arg15.IsWhole)
  (hc0 : ¬cond0_0 i) (hc1 : cond0_1 i)
  (x0 : Vec F S2x256x1024 .f32) (x1 x2 x3 x4 : Vec F S1024x1024 .f32) (x5 : Vec F S2x16 .f32) (x6 xs0 : Vec F S2x16x64x64 .f32)

/-- The stores into the carried states, told by head. -/
theorem stateStores_C :
    (kernelRun0_C c i arg2 harg2 arg3 harg3 arg4 harg4 arg5 harg5 arg6 harg6 arg7 harg7 arg8 harg8 arg9 harg9 arg10 harg10
      arg11 harg11 arg12 harg12 arg13 harg13 arg14 harg14 arg15 harg15 hc0 hc1 x0 x1 x2 x3 x4 x5 x6 xs0).2.2.1
      = stateStores (fun b h => arg13.view.readCov (projectStores (weight arg4 harg4 x2) (tokens arg2 harg2 x0)) (blockRect b h).toLoadRect)
          (fun b h => arg14.view.readCov (projectStores (weight arg5 harg5 x3) (tokens arg2 harg2 x0)) (blockRect b h).toLoadRect)
          (fun b h => View.readAt (Elt F) arg11.view (cellRect b h).toLoadRect (harg11.unread xs0))
          (k0_pay15 (table arg7 harg7 x5)) ++ [] := by
  rfl

/-- The stores into the output block, told by head. -/
theorem outputStores_C :
    (kernelRun0_C c i arg2 harg2 arg3 harg3 arg4 harg4 arg5 harg5 arg6 harg6 arg7 harg7 arg8 harg8 arg9 harg9 arg10 harg10
      arg11 harg11 arg12 harg12 arg13 harg13 arg14 harg14 arg15 harg15 hc0 hc1 x0 x1 x2 x3 x4 x5 x6 xs0).1
      = outputStores (fun b => arg15.view.readCov
          (readStores (fun b h => arg12.view.readCov (projectStores (weight arg3 harg3 x1) (tokens arg2 harg2 x0)) (blockRect b h).toLoadRect)
            (fun b h => arg13.view.readCov (projectStores (weight arg4 harg4 x2) (tokens arg2 harg2 x0)) (blockRect b h).toLoadRect)
            (fun b h => arg14.view.readCov (projectStores (weight arg5 harg5 x3) (tokens arg2 harg2 x0)) (blockRect b h).toLoadRect)
            (fun b h => View.readAt (Elt F) arg11.view (cellRect b h).toLoadRect (harg11.unread xs0))
            (k0_pay15 (table arg7 harg7 x5))) (planeRect b).toLoadRect) (weight arg6 harg6 x4) := by
  rfl

/-- The states the point leaves in the carried buffer. -/
theorem sout0_C_0_eq :
    sout0_C_0 c i arg2 harg2 arg3 harg3 arg4 harg4 arg5 harg5 arg6 harg6 arg7 harg7 arg8 harg8 arg9 harg9 arg10 harg10
      arg11 harg11 arg12 harg12 arg13 harg13 arg14 harg14 arg15 harg15 hc0 hc1 x0 x1 x2 x3 x4 x5 x6 xs0
      = leaveAll (projected x2 x0) (projected x3 x0) xs0 (k0_pay15 x5) := by
  refine (View.read_writes_junk_eq_canon _ _).trans ?_
  rw [stateStores_C, table_eq]
  exact canon_leave _ _ _ _ _ _ _ (fun b h => readCov_ld _ _ _ _ (canon_projections harg4 harg2 x2 x0))
    (fun b h => readCov_ld _ _ _ _ (canon_projections harg5 harg2 x3 x0)) (fun b h => readAt_ld harg11 xs0 (cellRect b h)) _

/-- The output block the point leaves. -/
theorem out0_C_7_eq :
    out0_C_7 c i arg2 harg2 arg3 harg3 arg4 harg4 arg5 harg5 arg6 harg6 arg7 harg7 arg8 harg8 arg9 harg9 arg10 harg10
      arg11 harg11 arg12 harg12 arg13 harg13 arg14 harg14 arg15 harg15 hc0 hc1 x0 x1 x2 x3 x4 x5 x6 xs0
      = outputAll (readAll (projected x1 x0) (projected x2 x0) (projected x3 x0) xs0 (k0_pay15 x5)) x4 := by
  refine (View.read_writes_junk_eq_canon _ _).trans ?_
  rw [outputStores_C, table_eq, weight_eq harg6]
  exact canon_output _ _ _ fun b => readCov_ld _ _ _ _
    (canon_read _ _ _ _ _ _ _ _ _ (fun b h => readCov_ld _ _ _ _ (canon_projections harg3 harg2 x1 x0))
      (fun b h => readCov_ld _ _ _ _ (canon_projections harg4 harg2 x2 x0))
      (fun b h => readCov_ld _ _ _ _ (canon_projections harg5 harg2 x3 x0)) (fun b h => readAt_ld harg11 xs0 (cellRect b h)))

/-- The one store into the block of final states: the carried states, read back whole. -/
theorem finalStore_C :
    (kernelRun0_C c i arg2 harg2 arg3 harg3 arg4 harg4 arg5 harg5 arg6 harg6 arg7 harg7 arg8 harg8 arg9 harg9 arg10 harg10
      arg11 harg11 arg12 harg12 arg13 harg13 arg14 harg14 arg15 harg15 hc0 hc1 x0 x1 x2 x3 x4 x5 x6 xs0).2.1
      = [⟨Rect.unit ![0, 0, 0, 0] S2x16x64x64.size inb_S2x16x64x64_S2x16x64x64_0_0_0_0,
          arg11.view.readCov (kernelRun0_C c i arg2 harg2 arg3 harg3 arg4 harg4 arg5 harg5 arg6 harg6 arg7 harg7 arg8 harg8 arg9 harg9 arg10 harg10
      arg11 harg11 arg12 harg12 arg13 harg13 arg14 harg14 arg15 harg15 hc0 hc1 x0 x1 x2 x3 x4 x5 x6 xs0).2.2.1
            (Rect.unit ![0, 0, 0, 0] S2x16x64x64.size inb_S2x16x64x64_S2x16x64x64_0_0_0_0).toLoadRect⟩] := by
  rfl

/-- The block of final states is the carried states. -/
theorem out0_C_8_eq :
    out0_C_8 c i arg2 harg2 arg3 harg3 arg4 harg4 arg5 harg5 arg6 harg6 arg7 harg7 arg8 harg8 arg9 harg9 arg10 harg10
      arg11 harg11 arg12 harg12 arg13 harg13 arg14 harg14 arg15 harg15 hc0 hc1 x0 x1 x2 x3 x4 x5 x6 xs0
      = leaveAll (projected x2 x0) (projected x3 x0) xs0 (k0_pay15 x5) := by
  refine (View.read_writes_junk_eq_canon _ _).trans ?_
  rw [finalStore_C]
  refine (canon_states _).trans ?_
  refine (readCov_ld _ _ _ _ ((View.read_writes_junk_eq_canon VS0_0 _).symm.trans (sout0_C_0_eq c i arg2 harg2 arg3 harg3 arg4 harg4 arg5 harg5 arg6 harg6 arg7 harg7 arg8 harg8 arg9 harg9 arg10 harg10
      arg11 harg11 arg12 harg12 arg13 harg13 arg14 harg14 arg15 harg15 hc0 hc1 x0 x1 x2 x3 x4 x5 x6 xs0))).trans ?_
  exact ld_states _

end Cert.KernelIdeal.Head

end
-- ==== Proof.Points.lean ====
/- What every point of the grid leaves, whichever of the three kinds of point it is: the states in the carried buffer, the
   output block and, at a batch pair's last chunk, the block of final states. -/
module

public import proofs.«01_k».proof.Proof.StoresA
public import proofs.«01_k».proof.Proof.StoresB
public import proofs.«01_k».proof.Proof.StoresC

@[expose] public section

set_option maxRecDepth 16384

noncomputable section

namespace Cert.KernelIdeal.Head

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (c : Dev nD) (t : Fin cfg0.N)

/-- The states the point starts from: the given ones at the first chunk, else what the point before left. -/
def found : Vec F S2x16x64x64 .f32 :=
  if t.val % 8 = 0 then iblk m c 6 t else (outsAt0 m c (t.val - 1) (Nat.lt_of_le_of_lt (Nat.sub_le _ _) t.isLt)).2.2

/-- The point's queries. -/
abbrev queriesAt : Vec F S2x1024x256 .f32 := projected (iblk m c 1 t) (iblk m c 0 t)
/-- The point's keys, not yet scaled. -/
abbrev keysAt : Vec F S2x1024x256 .f32 := projected (iblk m c 2 t) (iblk m c 0 t)
/-- The point's values. -/
abbrev valuesAt : Vec F S2x1024x256 .f32 := projected (iblk m c 3 t) (iblk m c 0 t)
/-- The point's table of rates. -/
abbrev ratesAt : FVec F S2x16 .f32 := k0_pay15 (iblk m c 5 t)

/-- The states the point leaves. -/
theorem point_states : (outsAt0 m c t.val t.isLt).2.2 = leaveAll (keysAt m c t) (valuesAt m c t) (found m c t) (ratesAt m c t) := by
  by_cases h0 : t.val % 8 = 0
  · rw [found, if_pos h0, outsAt0_A m c t h0 (by omega)]; dsimp only; exact sout0_A_0_eq ..
  · rw [found, if_neg h0]
    by_cases h1 : t.val % 8 = 7
    · rw [outsAt0_C m c t h0 h1]; dsimp only; exact sout0_C_0_eq ..
    · rw [outsAt0_B m c t h0 h1]; dsimp only; exact sout0_B_0_eq ..

/-- The output block the point leaves. -/
theorem point_output : (outsAt0 m c t.val t.isLt).1
    = outputAll (readAll (queriesAt m c t) (keysAt m c t) (valuesAt m c t) (found m c t) (ratesAt m c t)) (iblk m c 4 t) := by
  by_cases h0 : t.val % 8 = 0
  · rw [found, if_pos h0, outsAt0_A m c t h0 (by omega)]; dsimp only; exact out0_A_7_eq ..
  · rw [found, if_neg h0]
    by_cases h1 : t.val % 8 = 7
    · rw [outsAt0_C m c t h0 h1]; dsimp only; exact out0_C_7_eq ..
    · rw [outsAt0_B m c t h0 h1]; dsimp only; exact out0_B_7_eq ..

/-- The final states' block at the last chunk: the states the point leaves. -/
theorem point_final (h1 : t.val % 8 = 7) : (outsAt0 m c t.val t.isLt).2.1 = (outsAt0 m c t.val t.isLt).2.2 := by
  rw [point_states, found, if_neg (by omega), outsAt0_C m c t (by omega) h1]; dsimp only; exact out0_C_8_eq ..

end Cert.KernelIdeal.Head

end
-- ==== Proof.Chunk.lean ====
/- The mathematics of one chunk of the delta rule, over the reals: running the recurrence one token at a time is the
   same as solving one triangular system for the whole chunk. Nothing here mentions a program. -/
module

public import Mathlib.Data.Real.Basic
public import Mathlib.Data.Matrix.Mul
public import Mathlib.Tactic.Ring
public import Mathlib.Tactic.NoncommRing
public import Mathlib.Tactic.Linarith
public import Mathlib.Algebra.BigOperators.Fin

@[expose] public section

noncomputable section

namespace Cert.Delta

open Matrix

/-- One token of the delta rule: the state loses `α (S k) kᵀ` and gains `β v kᵀ`. -/
def tok {D : ℕ} (α β : ℝ) (k v : Fin D → ℝ) (S : Matrix (Fin D) (Fin D) ℝ) : Matrix (Fin D) (Fin D) ℝ :=
  fun d e => S d e - α * ((∑ e', S d e' * k e') * k e) + β * (v d * k e)

/-- The state before token `n`, from the entry state `S`. -/
def stateAt {D : ℕ} (α β : ℝ) (k v : ℕ → Fin D → ℝ) (S : Matrix (Fin D) (Fin D) ℝ) : ℕ → Matrix (Fin D) (Fin D) ℝ
  | 0 => S
  | n + 1 => tok α β (k n) (v n) (stateAt α β k v S n)

/-- What token `n` reads: its query against the state before it. -/
def readAt {D : ℕ} (α β : ℝ) (k v q : ℕ → Fin D → ℝ) (S : Matrix (Fin D) (Fin D) ℝ) (n : ℕ) : Fin D → ℝ :=
  fun d => ∑ e, q n e * stateAt α β k v S n d e

/-- The tokens from `n` on, run from the state before token `n`, continue the run. -/
theorem stateAt_add {D : ℕ} (α β : ℝ) (k v : ℕ → Fin D → ℝ) (S : Matrix (Fin D) (Fin D) ℝ) (n j : ℕ) :
    stateAt α β k v S (n + j) = stateAt α β (fun i => k (n + i)) (fun i => v (n + i)) (stateAt α β k v S n) j := by
  induction j with
  | zero => rfl
  | succ j ih => rw [← Nat.add_assoc, stateAt, ih, stateAt]

/-- The same for what a token reads. -/
theorem readAt_add {D : ℕ} (α β : ℝ) (k v q : ℕ → Fin D → ℝ) (S : Matrix (Fin D) (Fin D) ℝ) (n j : ℕ) :
    readAt α β k v q S (n + j)
      = readAt α β (fun i => k (n + i)) (fun i => v (n + i)) (fun i => q (n + i)) (stateAt α β k v S n) j := by
  funext d; simp only [readAt, stateAt_add]

/-- What token `n` adds to the state along its key: `β v − α S k`. -/
def gainAt {D : ℕ} (α β : ℝ) (k v : ℕ → Fin D → ℝ) (S : Matrix (Fin D) (Fin D) ℝ) (n : ℕ) : Fin D → ℝ :=
  fun d => β * v n d - α * ∑ e, stateAt α β k v S n d e * k n e

/-- The state before token `n` is the entry state plus the earlier tokens' gains along their keys. -/
theorem stateAt_eq_sum {D : ℕ} (α β : ℝ) (k v : ℕ → Fin D → ℝ) (S : Matrix (Fin D) (Fin D) ℝ) (n : ℕ) (d e : Fin D) :
    stateAt α β k v S n d e = S d e + ∑ s ∈ Finset.range n, gainAt α β k v S s d * k s e := by
  induction n with
  | zero => simp [stateAt]
  | succ n ih =>
    rw [Finset.sum_range_succ, ← add_assoc, ← ih, stateAt, tok, gainAt]
    ring

/-- A gain in terms of the entry state and the earlier gains. -/
theorem gainAt_eq {D : ℕ} (α β : ℝ) (k v : ℕ → Fin D → ℝ) (S : Matrix (Fin D) (Fin D) ℝ) (n : ℕ) (d : Fin D) :
    gainAt α β k v S n d = β * v n d - α * (∑ e, S d e * k n e)
      - ∑ s ∈ Finset.range n, gainAt α β k v S s d * (α * ∑ e, k s e * k n e) := by
  have h : ∑ e, stateAt α β k v S n d e * k n e
      = (∑ e, S d e * k n e) + ∑ s ∈ Finset.range n, gainAt α β k v S s d * ∑ e, k s e * k n e := by
    simp only [stateAt_eq_sum α β k v S n, add_mul, Finset.sum_add_distrib, Finset.sum_mul]
    rw [Finset.sum_comm]
    congr 1
    refine Finset.sum_congr rfl fun s _ => ?_
    rw [Finset.mul_sum]
    exact Finset.sum_congr rfl fun e _ => by ring
  rw [show gainAt α β k v S n d = β * v n d - α * ∑ e, stateAt α β k v S n d e * k n e from rfl, h, mul_add]
  rw [← sub_sub, Finset.mul_sum (f := fun s => gainAt α β k v S s d * ∑ e, k s e * k n e)]
  congr 1
  exact Finset.sum_congr rfl fun s _ => by ring

/-- What a token reads, in terms of the entry state and the earlier gains. -/
theorem readAt_eq {D : ℕ} (α β : ℝ) (k v q : ℕ → Fin D → ℝ) (S : Matrix (Fin D) (Fin D) ℝ) (n : ℕ) (d : Fin D) :
    readAt α β k v q S n d = (∑ e, S d e * q n e)
      + ∑ s ∈ Finset.range n, gainAt α β k v S s d * ∑ e, k s e * q n e := by
  simp only [readAt, stateAt_eq_sum α β k v S n, mul_add, Finset.sum_add_distrib, Finset.mul_sum]
  congr 1
  · exact Finset.sum_congr rfl fun e _ => mul_comm _ _
  · rw [Finset.sum_comm]
    exact Finset.sum_congr rfl fun s _ => Finset.sum_congr rfl fun e _ => by ring

/-! ## The triangular system -/

/-- The entries of `A` strictly above the diagonal. -/
def above {L : ℕ} (A : Matrix (Fin L) (Fin L) ℝ) : Matrix (Fin L) (Fin L) ℝ :=
  fun s t => if s < t then A s t else 0

/-- A strictly upper triangular matrix to the power `p` vanishes up to the `p`-th diagonal. -/
theorem above_pow {L : ℕ} (A : Matrix (Fin L) (Fin L) ℝ) (p : ℕ) (s t : Fin L) (h : (t : ℕ) < s + p) :
    ((above A) ^ p) s t = 0 := by
  induction p generalizing t with
  | zero => rw [pow_zero, Matrix.one_apply_ne]; rintro rfl; omega
  | succ p ih =>
    rw [pow_succ, Matrix.mul_apply]
    refine Finset.sum_eq_zero fun r _ => ?_
    by_cases hr : (r : ℕ) < s + p
    · rw [ih r hr, zero_mul]
    · rw [above, if_neg (by rw [Fin.lt_def]; omega), mul_zero]

/-- So its `L`-th power is zero. -/
theorem above_pow_size {L : ℕ} (A : Matrix (Fin L) (Fin L) ℝ) : (above A) ^ L = 0 := by
  ext s t
  exact above_pow A L s t (by have := t.isLt; omega)

/-- The doubling solve after `j` rounds: the power of `N`, and the partial solution. Each round squares the power and
    adds the product with it. -/
def rounds {D L : ℕ} (N : Matrix (Fin L) (Fin L) ℝ) (R : Matrix (Fin D) (Fin L) ℝ) :
    ℕ → Matrix (Fin L) (Fin L) ℝ × Matrix (Fin D) (Fin L) ℝ
  | 0 => (N, R - R * N)
  | j + 1 => ((rounds N R j).1 * (rounds N R j).1,
      (rounds N R j).2 + (rounds N R j).2 * ((rounds N R j).1 * (rounds N R j).1))

/-- After `j` rounds the power is `2 ^ j`. -/
theorem rounds_fst {D L : ℕ} (N : Matrix (Fin L) (Fin L) ℝ) (R : Matrix (Fin D) (Fin L) ℝ) (j : ℕ) :
    (rounds N R j).1 = N ^ 2 ^ j := by
  induction j with
  | zero => simp [rounds]
  | succ j ih => rw [rounds, ih, ← pow_add, pow_succ, mul_two]

/-- After `j` rounds the partial solution misses `R` by the power `2 ^ (j + 1)` of `N`. -/
theorem rounds_snd {D L : ℕ} (N : Matrix (Fin L) (Fin L) ℝ) (R : Matrix (Fin D) (Fin L) ℝ) (j : ℕ) :
    (rounds N R j).2 * (1 + N) = R * (1 - N ^ 2 ^ (j + 1)) := by
  induction j with
  | zero =>
    rw [rounds, show N ^ 2 ^ (0 + 1) = N * N by rw [zero_add, pow_one, pow_two]]
    simp only [Matrix.sub_mul, Matrix.mul_add, Matrix.mul_sub, Matrix.mul_one, Matrix.mul_assoc]
    abel
  | succ j ih =>
    have hc : N ^ 2 ^ (j + 1) * (1 + N) = (1 + N) * N ^ 2 ^ (j + 1) := by
      rw [mul_add, add_mul, mul_one, one_mul, ← pow_succ, ← pow_succ']
    rw [rounds, rounds_fst, ← pow_add, ← two_mul, ← pow_succ', Matrix.add_mul, Matrix.mul_assoc, hc,
      ← Matrix.mul_assoc, ih, Matrix.mul_assoc, ← Matrix.mul_add]
    congr 1
    rw [sub_mul, one_mul, ← pow_add, ← two_mul, ← pow_succ']
    abel

/-- Seven rounds solve the system of 256 tokens. -/
theorem rounds_solve {D : ℕ} (A : Matrix (Fin 256) (Fin 256) ℝ) (R : Matrix (Fin D) (Fin 256) ℝ) :
    (rounds (above A) R 7).2 * (1 + above A) = R := by
  rw [rounds_snd, show (2 : ℕ) ^ (7 + 1) = 256 by norm_num, above_pow_size, sub_zero, Matrix.mul_one]

/-! ## One chunk -/

/-- The right-hand side of a chunk's system: `β V − α (S K)`. -/
def rhs {D L : ℕ} (α β : ℝ) (S : Matrix (Fin D) (Fin D) ℝ) (K V : Matrix (Fin D) (Fin L) ℝ) : Matrix (Fin D) (Fin L) ℝ :=
  β • V - α • (S * K)

/-- The solution of a chunk's system by seven rounds of doubling. -/
def solve {D : ℕ} (α β : ℝ) (S : Matrix (Fin D) (Fin D) ℝ) (K V : Matrix (Fin D) (Fin 256) ℝ) : Matrix (Fin D) (Fin 256) ℝ :=
  (rounds (above (α • (Kᵀ * K))) (rhs α β S K V) 7).2

/-- A sum over the indices below `t`, as a sum over all indices with the others made zero. -/
theorem sum_range_eq_sum_fin {L : ℕ} (f : ℕ → ℝ) (t : Fin L) :
    ∑ s ∈ Finset.range t, f s = ∑ s : Fin L, if s < t then f s else 0 := by
  have h : ∑ s : Fin L, (if s < t then f s else 0) = ∑ s ∈ Finset.range L, if s < (t : ℕ) then f s else 0 := by
    rw [Finset.sum_range]
    exact Finset.sum_congr rfl fun s _ => if_congr Fin.lt_def rfl rfl
  rw [h, Finset.sum_ite, Finset.sum_const_zero, add_zero]
  refine Finset.sum_congr ?_ fun _ _ => rfl
  ext s
  simp only [Finset.mem_filter, Finset.mem_range]
  have := t.isLt
  omega

/-- A matrix `U` with `U (1 + N) = R` has the tokens' gains as its columns. -/
theorem gains_of_system {D L : ℕ} (α β : ℝ) (S : Matrix (Fin D) (Fin D) ℝ) (k v : ℕ → Fin D → ℝ)
    (K V U : Matrix (Fin D) (Fin L) ℝ) (hK : ∀ e t, K e t = k t e) (hV : ∀ d t, V d t = v t d)
    (hU : U * (1 + above (α • (Kᵀ * K))) = rhs α β S K V) (n : ℕ) (hn : n < L) (d : Fin D) :
    U d ⟨n, hn⟩ = gainAt α β k v S n d := by
  induction n using Nat.strong_induction_on with
  | _ n ih =>
    have h := congrFun (congrFun hU d) ⟨n, hn⟩
    rw [Matrix.mul_add, Matrix.mul_one, Matrix.add_apply, Matrix.mul_apply] at h
    have h2 : ∑ s : Fin L, U d s * above (α • (Kᵀ * K)) s ⟨n, hn⟩
        = ∑ s ∈ Finset.range n, gainAt α β k v S s d * (α * ∑ e, k s e * k n e) := by
      rw [show Finset.range n = Finset.range ((⟨n, hn⟩ : Fin L) : ℕ) from rfl, sum_range_eq_sum_fin]
      refine Finset.sum_congr rfl fun s _ => ?_
      rw [above]
      by_cases hs : s < (⟨n, hn⟩ : Fin L)
      · rw [if_pos hs, if_pos hs, ← ih s hs s.isLt, Matrix.smul_apply, Matrix.mul_apply]
        simp only [Matrix.transpose_apply, hK, smul_eq_mul, Fin.eta]
      · rw [if_neg hs, if_neg hs, mul_zero]
    rw [h2] at h
    rw [gainAt_eq, ← h2, h2, eq_sub_iff_add_eq, h, rhs, Matrix.sub_apply, Matrix.smul_apply, Matrix.smul_apply,
      Matrix.mul_apply]
    simp only [smul_eq_mul, hK, hV]

/-- So the solved chunk's columns are the tokens' gains. -/
theorem solve_eq {D : ℕ} (α β : ℝ) (S : Matrix (Fin D) (Fin D) ℝ) (k v : ℕ → Fin D → ℝ)
    (K V : Matrix (Fin D) (Fin 256) ℝ) (hK : ∀ e t, K e t = k t e) (hV : ∀ d t, V d t = v t d) (d : Fin D) (t : Fin 256) :
    solve α β S K V d t = gainAt α β k v S t d :=
  gains_of_system α β S k v K V _ hK hV (rounds_solve _ _) t t.isLt d

/-- THE CHUNK'S STATE: entry state plus solution times keys is the state after 256 tokens. -/
theorem chunk_state {D : ℕ} (α β : ℝ) (S : Matrix (Fin D) (Fin D) ℝ) (k v : ℕ → Fin D → ℝ)
    (K V : Matrix (Fin D) (Fin 256) ℝ) (hK : ∀ e t, K e t = k t e) (hV : ∀ d t, V d t = v t d) :
    S + solve α β S K V * Kᵀ = stateAt α β k v S 256 := by
  ext d e
  rw [stateAt_eq_sum, Matrix.add_apply, Matrix.mul_apply, Finset.sum_range]
  congr 1
  refine Finset.sum_congr rfl fun s _ => ?_
  rw [solve_eq α β S k v K V hK hV, Matrix.transpose_apply, hK]

/-- THE CHUNK'S READS: entry state times queries, plus solution times the strictly earlier keys against the queries. -/
theorem chunk_read {D : ℕ} (α β : ℝ) (S : Matrix (Fin D) (Fin D) ℝ) (k v q : ℕ → Fin D → ℝ)
    (K V Q : Matrix (Fin D) (Fin 256) ℝ) (hK : ∀ e t, K e t = k t e) (hV : ∀ d t, V d t = v t d)
    (hQ : ∀ e t, Q e t = q t e) (d : Fin D) (t : Fin 256) :
    (S * Q + solve α β S K V * above (Kᵀ * Q)) d t = readAt α β k v q S t d := by
  rw [readAt_eq, Matrix.add_apply, Matrix.mul_apply, Matrix.mul_apply, sum_range_eq_sum_fin]
  congr 1
  · simp only [hQ]
  · refine Finset.sum_congr rfl fun s _ => ?_
    rw [above]
    by_cases hs : s < t
    · rw [if_pos hs, if_pos hs, solve_eq α β S k v K V hK hV, Matrix.mul_apply]
      simp only [Matrix.transpose_apply, hK, hQ]
    · rw [if_neg hs, if_neg hs, mul_zero]

end Cert.Delta

end
-- ==== Proof.Exact.lean ====
/- Which of the problem's numbers are real numbers: sums of products of real numbers are, a rate always is, a key
   scaled to unit length always is. -/
module

public import Idealize.ShloMosaic.PureOps.Ideal
public import Idealize.ShloMosaic.PureOps.Ideal.Laws

@[expose] public section

noncomputable section

namespace Cert.Delta

open Idealize.ShloMosaic

/-- A sum of real numbers is the same sum among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of products of real numbers likewise. -/
theorem coe_dot {ι : Type} [Fintype ι] (f g : ι → ℝ) : ∑ i, ((f i : ℝ) : EReal) * ((g i : ℝ) : EReal) = ((∑ i, f i * g i : ℝ) : EReal) := by
  rw [← coe_sum]; exact Finset.sum_congr rfl fun i _ => (EReal.coe_mul _ _).symm

/-- A number that is neither infinity is a real number. -/
theorem real_of_finite {x : EReal} (h : x ≠ ⊥ ∧ x ≠ ⊤) : ∃ r : ℝ, x = r := ⟨x.toReal, (EReal.coe_toReal h.2 h.1).symm⟩

/-- `1 / (1 + e^(-x))` is a real number whatever `x` is. -/
theorem logistic_real (x : EReal) : ∃ r : ℝ, Ideal.logistic x = r := by
  induction x with
  | bot => exact ⟨0, by simp⟩
  | top => exact ⟨1, by simp⟩
  | coe r => exact ⟨_, Ideal.logistic_coe r⟩

/-- A rate from its raw parameter: half of `1 / (1 + e^(-x))`. -/
def rateOf (x : EReal) : EReal := Ideal.ofBits .f32 0x3F000000#32 * Ideal.logistic x

/-- The word for one half is one half. -/
theorem half : Ideal.ofBits .f32 0x3F000000#32 = (((1 : ℝ) / 2 : ℝ) : EReal) := by
  simp [Ideal.ofBits, Ideal.ieee, -EReal.coe_mul]; norm_num

/-- A rate is a real number, whatever its raw parameter. -/
theorem rateOf_real (x : EReal) : ∃ r : ℝ, rateOf x = r := by
  obtain ⟨r, hr⟩ := logistic_real x
  exact ⟨1 / 2 * r, by rw [rateOf, hr, half, EReal.coe_mul]⟩

/-- One entry of a key scaled to unit length, its length kept from below by a small number. -/
def unitOf {n : ℕ} (y : Fin n → EReal) (d : Fin n) : EReal :=
  Ideal.div (y d) (max (Ideal.sqrt (∑ e, y e * y e)) (Ideal.ofBits .f32 0x2B8CBCCC#32))

/-- The small number is a positive real number. -/
theorem floor_pos : ∃ r : ℝ, 0 < r ∧ Ideal.ofBits .f32 0x2B8CBCCC#32 = r := by
  refine ⟨9223372 * (2 : ℝ) ^ (87 - 127 - 23 : ℤ), by positivity, ?_⟩
  simp [Ideal.ofBits, Ideal.ieee, -EReal.coe_mul]

/-- A square is not negative, at the infinities either. -/
theorem square_nonneg (x : EReal) : 0 ≤ x * x := by
  induction x with
  | bot => simp
  | top => simp
  | coe r => rw [← EReal.coe_mul]; exact EReal.coe_nonneg.mpr (mul_self_nonneg r)

/-- An entry of a key scaled to unit length is a real number, even when the key is not. -/
theorem unitOf_real {n : ℕ} (y : Fin n → EReal) (d : Fin n) : ∃ r : ℝ, unitOf y d = r := by
  obtain ⟨f, hf, hfl⟩ := floor_pos
  by_cases hy : ∀ e, y e ≠ ⊥ ∧ y e ≠ ⊤
  · choose z hz using fun e => real_of_finite (hy e)
    have hs : ∑ e, y e * y e = ((∑ e, z e * z e : ℝ) : EReal) := by
      rw [← coe_dot]; exact Finset.sum_congr rfl fun e _ => by rw [hz e]
    have h0 : ¬ (∑ e, z e * z e) < 0 := not_lt.mpr (Finset.sum_nonneg fun e _ => mul_self_nonneg (z e))
    have hm : max (Real.sqrt (∑ e, z e * z e)) f ≠ 0 := (lt_of_lt_of_le hf (le_max_right _ _)).ne'
    refine ⟨z d * (1 / max (Real.sqrt (∑ e, z e * z e)) f), ?_⟩
    rw [unitOf, hs, hfl, Ideal.sqrt_coe, if_neg h0, ← EReal.coe_strictMono.monotone.map_max, Ideal.div_coe hm, hz d, EReal.coe_mul]
  · push Not at hy
    obtain ⟨e, he⟩ := hy
    have hee : y e * y e = ⊤ := by
      by_cases hb : y e = ⊥
      · simp [hb]
      · simp [he hb]
    have hs : ∑ e, y e * y e = ⊤ := by
      rw [← Finset.add_sum_erase _ _ (Finset.mem_univ e), hee]
      refine EReal.top_add_of_ne_bot fun hbot => ?_
      have := Finset.sum_nonneg (s := Finset.univ.erase e) fun i _ => square_nonneg (y i)
      rw [hbot] at this
      exact absurd this (by simp)
    refine ⟨0, ?_⟩
    rw [unitOf, hs, Ideal.sqrt_top, max_eq_left le_top, Ideal.div, if_neg (by simp), EReal.inv_top, mul_zero, EReal.coe_zero]

end Cert.Delta

end
-- ==== Proof.Spec.lean ====
/- The problem's numbers, from its arguments: queries, keys, values, rates, states, what the tokens read and the output.
   Every one but the output is a real number when the arguments that must be finite are. -/
module

public import proofs.«01_k».proof.Proof.Chunk
public import proofs.«01_k».proof.Proof.Exact

@[expose] public section

noncomputable section

namespace Cert.Delta

open Idealize.ShloMosaic

/-- The arguments: tokens `x`, the four weights, the raw rates and the entry states. -/
structure Args where
  x : Fin 4 → Fin 2048 → Fin 1024 → EReal
  wq : Fin 1024 → Fin 1024 → EReal
  wk : Fin 1024 → Fin 1024 → EReal
  wv : Fin 1024 → Fin 1024 → EReal
  wo : Fin 1024 → Fin 1024 → EReal
  a : Fin 16 → EReal
  b : Fin 16 → EReal
  s : Fin 4 → Fin 16 → Fin 64 → Fin 64 → EReal

/-- The tokens, the query and value weights and the entry states are finite. -/
structure Args.Finite (p : Args) : Prop where
  x : ∀ b t j, p.x b t j ≠ ⊥ ∧ p.x b t j ≠ ⊤
  wq : ∀ r j, p.wq r j ≠ ⊥ ∧ p.wq r j ≠ ⊤
  wv : ∀ r j, p.wv r j ≠ ⊥ ∧ p.wv r j ≠ ⊤
  s : ∀ b h d e, p.s b h d e ≠ ⊥ ∧ p.s b h d e ≠ ⊤

/-- The head of a column of the model. -/
def headIx (r : Fin 1024) : Fin 16 := ⟨(r : ℕ) / 64, by have := r.isLt; omega⟩

/-- The place of a column inside its head. -/
def laneIx (r : Fin 1024) : Fin 64 := ⟨(r : ℕ) % 64, by omega⟩

/-- The column of a head's place. -/
def column (h : Fin 16) (d : Fin 64) : Fin 1024 := ⟨h * 64 + d, by have := h.isLt; have := d.isLt; omega⟩

/-- Token `n` of the 2048. -/
def token (n : ℕ) : Fin 2048 := ⟨n % 2048, Nat.mod_lt _ (by decide)⟩

/-- A token's own number names it. -/
theorem token_val (t : Fin 2048) : token (t : ℕ) = t := Fin.ext (Nat.mod_eq_of_lt t.isLt)

/-- A token against a row of a weight. -/
def proj (x : Fin 4 → Fin 2048 → Fin 1024 → EReal) (w : Fin 1024 → Fin 1024 → EReal) (b : Fin 4) (t : Fin 2048) (r : Fin 1024) : EReal :=
  ∑ j, x b t j * w r j

/-- A finite token against a finite row is a real number. -/
theorem proj_real {x : Fin 4 → Fin 2048 → Fin 1024 → EReal} {w : Fin 1024 → Fin 1024 → EReal}
    (hx : ∀ b t j, x b t j ≠ ⊥ ∧ x b t j ≠ ⊤) (hw : ∀ r j, w r j ≠ ⊥ ∧ w r j ≠ ⊤) (b : Fin 4) (t : Fin 2048) (r : Fin 1024) :
    ∃ z : ℝ, proj x w b t r = z := by
  choose y hy using fun j => real_of_finite (hx b t j)
  choose z hz using fun j => real_of_finite (hw r j)
  exact ⟨∑ j, y j * z j, by rw [proj, ← coe_dot]; exact Finset.sum_congr rfl fun j _ => by rw [hy j, hz j]⟩

namespace Args

variable (p : Args)

/-- A head's key before it is scaled. -/
def rawKey (b : Fin 4) (t : Fin 2048) (h : Fin 16) : Fin 64 → EReal := fun d => proj p.x p.wk b t (column h d)

/-- A head's queries, token by token. -/
def query (b : Fin 4) (h : Fin 16) (n : ℕ) (d : Fin 64) : ℝ := (proj p.x p.wq b (token n) (column h d)).toReal
/-- A head's keys, scaled to unit length. -/
def key (b : Fin 4) (h : Fin 16) (n : ℕ) (d : Fin 64) : ℝ := (unitOf (p.rawKey b (token n) h) d).toReal
/-- A head's values. -/
def value (b : Fin 4) (h : Fin 16) (n : ℕ) (d : Fin 64) : ℝ := (proj p.x p.wv b (token n) (column h d)).toReal

/-- A head's decay rate. -/
def decay (h : Fin 16) : ℝ := (rateOf (p.a h)).toReal
/-- A head's write rate. -/
def write (h : Fin 16) : ℝ := (rateOf (p.b h)).toReal

/-- A head's entry state. -/
def start (b : Fin 4) (h : Fin 16) : Matrix (Fin 64) (Fin 64) ℝ := fun d e => (p.s b h d e).toReal

/-- A head's state before token `n`. -/
def state (b : Fin 4) (h : Fin 16) (n : ℕ) : Matrix (Fin 64) (Fin 64) ℝ :=
  stateAt (p.decay h) (p.write h) (p.key b h) (p.value b h) (p.start b h) n
/-- What token `n` reads. -/
def read (b : Fin 4) (h : Fin 16) (n : ℕ) : Fin 64 → ℝ :=
  readAt (p.decay h) (p.write h) (p.key b h) (p.value b h) (p.query b h) (p.start b h) n

/-- The output: what the token reads, all heads side by side, against the output weights. -/
def out (b : Fin 4) (t : Fin 2048) (r : Fin 1024) : EReal := ∑ j : Fin 1024, ((p.read b (headIx j) t (laneIx j) : ℝ) : EReal) * p.wo r j

variable {p}

/-- A real number among the exact numbers is its own real part. -/
theorem coe_toReal {x : EReal} (h : ∃ r : ℝ, x = r) : x = ((x.toReal : ℝ) : EReal) := by
  obtain ⟨r, rfl⟩ := h; rw [EReal.toReal_coe]

/-- A query is real, from finite tokens and weights. -/
theorem query_coe (f : p.Finite) (b : Fin 4) (h : Fin 16) (n : ℕ) (d : Fin 64) :
    proj p.x p.wq b (token n) (column h d) = ((p.query b h n d : ℝ) : EReal) := coe_toReal (proj_real f.x f.wq _ _ _)
/-- A value is real, from finite tokens and weights. -/
theorem value_coe (f : p.Finite) (b : Fin 4) (h : Fin 16) (n : ℕ) (d : Fin 64) :
    proj p.x p.wv b (token n) (column h d) = ((p.value b h n d : ℝ) : EReal) := coe_toReal (proj_real f.x f.wv _ _ _)
/-- A scaled key is real, whatever the key was. -/
theorem key_coe (b : Fin 4) (h : Fin 16) (n : ℕ) (d : Fin 64) :
    unitOf (p.rawKey b (token n) h) d = ((p.key b h n d : ℝ) : EReal) := coe_toReal (unitOf_real _ _)
/-- A decay rate is real. -/
theorem decay_coe (h : Fin 16) : rateOf (p.a h) = ((p.decay h : ℝ) : EReal) := coe_toReal (rateOf_real _)
/-- A write rate is real. -/
theorem write_coe (h : Fin 16) : rateOf (p.b h) = ((p.write h : ℝ) : EReal) := coe_toReal (rateOf_real _)
/-- A finite entry state is real. -/
theorem start_coe (f : p.Finite) (b : Fin 4) (h : Fin 16) (d e : Fin 64) : p.s b h d e = ((p.start b h d e : ℝ) : EReal) :=
  coe_toReal (real_of_finite (f.s b h d e))

variable (p)

/-- The 256 queries from token `n` on, a token a column. -/
def queriesFrom (b : Fin 4) (h : Fin 16) (n : ℕ) : Matrix (Fin 64) (Fin 256) ℝ := fun d j => p.query b h (n + j) d
/-- The 256 keys from token `n` on. -/
def keysFrom (b : Fin 4) (h : Fin 16) (n : ℕ) : Matrix (Fin 64) (Fin 256) ℝ := fun d j => p.key b h (n + j) d
/-- The 256 values from token `n` on. -/
def valuesFrom (b : Fin 4) (h : Fin 16) (n : ℕ) : Matrix (Fin 64) (Fin 256) ℝ := fun d j => p.value b h (n + j) d

/-- A chunk at once from the state before token `n` gives the state 256 tokens on. -/
theorem state_chunk (b : Fin 4) (h : Fin 16) (n : ℕ) :
    p.state b h n + solve (p.decay h) (p.write h) (p.state b h n) (p.keysFrom b h n) (p.valuesFrom b h n) * (p.keysFrom b h n).transpose
      = p.state b h (n + 256) :=
  (chunk_state _ _ _ (fun i => p.key b h (n + i)) (fun i => p.value b h (n + i)) _ _ (fun _ _ => rfl) (fun _ _ => rfl)).trans
    (stateAt_add _ _ _ _ _ n 256).symm

/-- And what its tokens read. -/
theorem read_chunk (b : Fin 4) (h : Fin 16) (n : ℕ) (d : Fin 64) (j : Fin 256) :
    (p.state b h n * p.queriesFrom b h n + solve (p.decay h) (p.write h) (p.state b h n) (p.keysFrom b h n) (p.valuesFrom b h n)
      * above ((p.keysFrom b h n).transpose * p.queriesFrom b h n)) d j = p.read b h (n + j) d :=
  (chunk_read _ _ _ (fun i => p.key b h (n + i)) (fun i => p.value b h (n + i)) (fun i => p.query b h (n + i)) _ _ _
    (fun _ _ => rfl) (fun _ _ => rfl) (fun _ _ => rfl) d j).trans (congrFun (readAt_add _ _ _ _ _ _ n j).symm d)

end Args

end Cert.Delta

end
-- ==== Proof.Inputs.lean ====
/- The blocks that a point of the grid is given, entry by entry, in terms of the kernel's arguments. Point `t` is chunk
   `t % 8` of the batches `2 (t / 8)` and `2 (t / 8) + 1`. -/
module

public import proofs.«01_k».proof.Proof.Gen.KernelIdeal.Value
public import proofs.«01_k».proof.Proof.Spec
public import Idealize.ShloMosaic.Lib.Pointwise

@[expose] public section

set_option maxRecDepth 16384

noncomputable section

namespace Cert.KernelIdeal.Head

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (c : Dev nD)

/-- A batch of the point's two, among the four. -/
def batchOf (t : Fin cfg0.N) (b : Fin 2) : Fin 4 := ⟨2 * (t.val / 8) + b, by
  have := t.isLt.trans_eq N_0; have := b.isLt; omega⟩

/-- A token of the point's chunk, among the 2048. -/
def tokenOf (t : Fin cfg0.N) (j : Fin 256) : Fin 2048 := ⟨256 * (t.val % 8) + j, by have := j.isLt; omega⟩

/-- The block of tokens a point sees: its pair of batches and its chunk. -/
theorem index_0 : ∀ t : Fin grid0.N, cc0_transform_0 (grid0.coords t) = ![t.val / 8, t.val % 8, 0] := by decide +kernel
/-- Every point sees the whole of this array. -/
theorem index_1 : ∀ t : Fin grid0.N, cc0_transform_1 (grid0.coords t) = ![0, 0] := by decide +kernel
/-- Every point sees the whole of this array. -/
theorem index_2 : ∀ t : Fin grid0.N, cc0_transform_2 (grid0.coords t) = ![0, 0] := by decide +kernel
/-- Every point sees the whole of this array. -/
theorem index_3 : ∀ t : Fin grid0.N, cc0_transform_3 (grid0.coords t) = ![0, 0] := by decide +kernel
/-- Every point sees the whole of this array. -/
theorem index_4 : ∀ t : Fin grid0.N, cc0_transform_4 (grid0.coords t) = ![0, 0] := by decide +kernel
/-- Every point sees the whole of this array. -/
theorem index_5 : ∀ t : Fin grid0.N, cc0_transform_5 (grid0.coords t) = ![0, 0] := by decide +kernel
/-- The block of states a point sees: its pair of batches. -/
theorem index_6 : ∀ t : Fin grid0.N, cc0_transform_6 (grid0.coords t) = ![t.val / 8, 0, 0, 0] := by decide +kernel

/-- Where an entry of a block lies in its array, by the block's index on each axis. -/
theorem block_val {s : Shape} (size : Fin s.rank → ℕ) (idx : Fin s.rank → ℕ) (hb : ∀ a, (idx a + 1) * size a ≤ s.size a)
    (y : (Rect.block (s := s) size idx hb).shape.Idx) (a : Fin s.rank) :
    ((Rect.block (s := s) size idx hb).emb y a).val = idx a * size a + (y a).val := by
  show idx a * size a + 1 * (y a).val = _
  rw [Nat.one_mul]

/-- The tokens' block. -/
theorem iblk_tokens (t : Fin cfg0.N) (b : Fin 2) (j : Fin 256) (r : Fin 1024) :
    (iblk m c 0 t : Vec F S2x256x1024 .f32) (ix3 b j r)
      = (m ((c : Thread nD τ).loc main_arg0) : Vec F S4x2048x1024 .f32) (ix3 (batchOf t b) (tokenOf t j) r) := by
  rw [← V_main_arg0 m c]
  have hi := index_0 t
  refine congrArg (V m c main_arg0 : Vec F S4x2048x1024 .f32)
    (show (Rect.block (s := S4x2048x1024) S2x256x1024.size (cc0_transform_0 (grid0.coords t)) (hinb0_0 (grid0.coords t))).emb (ix3 b j r) = _ from ?_)
  funext a
  refine Fin.ext ((block_val _ _ _ _ a).trans ?_)
  match a with
  | 0 => have hn : cc0_transform_0 (grid0.coords t) 0 = t.val / 8 := congrFun hi 0; exact (show cc0_transform_0 (grid0.coords t) 0 * 2 + b.val = 2 * (t.val / 8) + b.val by rw [hn]; omega)
  | 1 => have hn : cc0_transform_0 (grid0.coords t) 1 = t.val % 8 := congrFun hi 1; exact (show cc0_transform_0 (grid0.coords t) 1 * 256 + j.val = 256 * (t.val % 8) + j.val by rw [hn]; omega)
  | 2 => have hn : cc0_transform_0 (grid0.coords t) 2 = 0 := congrFun hi 2; exact (show cc0_transform_0 (grid0.coords t) 2 * 1024 + r.val = r.val by rw [hn]; omega)

/-- The states' block. -/
theorem iblk_states (t : Fin cfg0.N) (b : Fin 2) (h : Fin 16) (d e : Fin 64) :
    (iblk m c 6 t : Vec F S2x16x64x64 .f32) (ix4 b h d e)
      = (m ((c : Thread nD τ).loc main_arg7) : Vec F S4x16x64x64 .f32) (ix4 (batchOf t b) h d e) := by
  rw [← V_main_arg7 m c]
  have hi := index_6 t
  refine congrArg (V m c main_arg7 : Vec F S4x16x64x64 .f32)
    (show (Rect.block (s := S4x16x64x64) S2x16x64x64.size (cc0_transform_6 (grid0.coords t)) (hinb0_6 (grid0.coords t))).emb (ix4 b h d e) = _ from ?_)
  funext a
  refine Fin.ext ((block_val _ _ _ _ a).trans ?_)
  match a with
  | 0 => have hn : cc0_transform_6 (grid0.coords t) 0 = t.val / 8 := congrFun hi 0; exact (show cc0_transform_6 (grid0.coords t) 0 * 2 + b.val = 2 * (t.val / 8) + b.val by rw [hn]; omega)
  | 1 => have hn : cc0_transform_6 (grid0.coords t) 1 = 0 := congrFun hi 1; exact (show cc0_transform_6 (grid0.coords t) 1 * 16 + h.val = h.val by rw [hn]; omega)
  | 2 => have hn : cc0_transform_6 (grid0.coords t) 2 = 0 := congrFun hi 2; exact (show cc0_transform_6 (grid0.coords t) 2 * 64 + d.val = d.val by rw [hn]; omega)
  | 3 => have hn : cc0_transform_6 (grid0.coords t) 3 = 0 := congrFun hi 3; exact (show cc0_transform_6 (grid0.coords t) 3 * 64 + e.val = e.val by rw [hn]; omega)

/-- A block at index zero that is the whole of a matrix leaves every entry in its place. -/
theorem whole_emb {n k : ℕ} (idx : Fin 2 → ℕ) (hidx : idx = ![0, 0])
    (hb : ∀ a, (idx a + 1) * (⟨2, ![n, k]⟩ : Shape).size a ≤ (⟨2, ![n, k]⟩ : Shape).size a) (y : (⟨2, ![n, k]⟩ : Shape).Idx) :
    (Rect.block (s := ⟨2, ![n, k]⟩) (⟨2, ![n, k]⟩ : Shape).size idx hb).emb y = y := by
  funext a
  refine Fin.ext ((block_val _ _ _ _ a).trans ?_)
  subst hidx
  match a with
  | 0 => exact (show 0 * n + (y 0).val = (y 0).val by omega)
  | 1 => exact (show 0 * k + (y 1).val = (y 1).val by omega)

/-- The query weights' block is the query weights. -/
theorem iblk_wq (t : Fin cfg0.N) : (iblk m c 1 t : Vec F S1024x1024 .f32) = m ((c : Thread nD τ).loc main_arg1) := by
  rw [← V_main_arg1 m c]; funext y; exact congrArg (V m c main_arg1 : Vec F S1024x1024 .f32) (whole_emb _ (index_1 t) (hinb0_1 (grid0.coords t)) y)
/-- The key weights' block is the key weights. -/
theorem iblk_wk (t : Fin cfg0.N) : (iblk m c 2 t : Vec F S1024x1024 .f32) = m ((c : Thread nD τ).loc main_arg2) := by
  rw [← V_main_arg2 m c]; funext y; exact congrArg (V m c main_arg2 : Vec F S1024x1024 .f32) (whole_emb _ (index_2 t) (hinb0_2 (grid0.coords t)) y)
/-- The value weights' block is the value weights. -/
theorem iblk_wv (t : Fin cfg0.N) : (iblk m c 3 t : Vec F S1024x1024 .f32) = m ((c : Thread nD τ).loc main_arg3) := by
  rw [← V_main_arg3 m c]; funext y; exact congrArg (V m c main_arg3 : Vec F S1024x1024 .f32) (whole_emb _ (index_3 t) (hinb0_3 (grid0.coords t)) y)
/-- The output weights' block is the output weights. -/
theorem iblk_wo (t : Fin cfg0.N) : (iblk m c 4 t : Vec F S1024x1024 .f32) = m ((c : Thread nD τ).loc main_arg4) := by
  rw [← V_main_arg4 m c]; funext y; exact congrArg (V m c main_arg4 : Vec F S1024x1024 .f32) (whole_emb _ (index_4 t) (hinb0_4 (grid0.coords t)) y)

/-- The table of raw rates: the decay's above the write's. -/
def rateTable (a b : Vec F S1x16x1x1 .f32) : Vec F S2x16 .f32 := concatenate S2x16 0
  [⟨S1x16, broadcastInDim S1x16 ![1] bcast_S16_S1x16_1 (shapeCast S16 a shapeCasts_S1x16x1x1_S16)⟩,
   ⟨S1x16, broadcastInDim S1x16 ![1] bcast_S16_S1x16_1 (shapeCast S16 b shapeCasts_S1x16x1x1_S16)⟩] concatenates_S1x16_S1x16_S2x16_d0

/-- The table's block is the table of the raw rates. -/
theorem iblk_table (t : Fin cfg0.N) : (iblk m c 5 t : Vec F S2x16 .f32)
    = rateTable (m ((c : Thread nD τ).loc main_arg5)) (m ((c : Thread nD τ).loc main_arg6)) := by
  rw [show rateTable (m ((c : Thread nD τ).loc main_arg5)) (m ((c : Thread nD τ).loc main_arg6)) = (V m c main_v4 : Vec F S2x16 .f32) from rfl]
  funext y; exact congrArg (V m c main_v4 : Vec F S2x16 .f32) (whole_emb _ (index_5 t) (hinb0_5 (grid0.coords t)) y)

/-- The table's first row holds the decay's raw rates. -/
theorem table_decay (a b : Vec Ideal S1x16x1x1 .f32) (h : Fin 16) :
    rateTable a b (ix2 (0 : Fin 2) h) = a (ix4 (0 : Fin 1) h (0 : Fin 1) (0 : Fin 1)) := by
  pointwise [rateTable]
/-- The table's second row holds the write's raw rates. -/
theorem table_write (a b : Vec Ideal S1x16x1x1 .f32) (h : Fin 16) :
    rateTable a b (ix2 (1 : Fin 2) h) = b (ix4 (0 : Fin 1) h (0 : Fin 1) (0 : Fin 1)) := by
  pointwise [rateTable]

end Cert.KernelIdeal.Head

end
-- ==== Proof.Lift.lean ====
/- One head's chunk over exact numbers: when the head's blocks and rates are real numbers, what the kernel computes for the
   head is the real-number formula (`Cert.Delta`), entry by entry. -/
module

public import proofs.«01_k».proof.Proof.Head
public import proofs.«01_k».proof.Proof.Chunk
public import proofs.«01_k».proof.Proof.Exact
public import Idealize.ShloMosaic.Lib.Pointwise

@[expose] public section

noncomputable section

namespace Cert.KernelIdeal.Head

open Idealize.ShloMosaic Cert.KernelIdeal.Gen Cert.Delta Matrix

/-- The array `x` holds the real matrix `M`. -/
def Holds {m n : ℕ} (x : (⟨2, ![m, n]⟩ : Shape).Idx → EReal) (M : Matrix (Fin m) (Fin n) ℝ) : Prop :=
  ∀ i j, x (ix2 i j) = ((M i j : ℝ) : EReal)

/-- Token numbers compare as numbers. -/
theorem earlier (s t : Fin 256) : IntOp.cmpi .slt (BitVec.ofNat 32 (s : ℕ)) (BitVec.ofNat 32 (t : ℕ)) = if s < t then 1#1 else 0#1 := by
  have hs := s.isLt
  have ht := t.isLt
  have e : ∀ n : ℕ, n < 256 → (BitVec.ofNat 32 n).toInt = (n : ℤ) := fun n hn => by
    rw [BitVec.toInt_eq_toNat_of_lt] <;> rw [BitVec.toNat_ofNat, Nat.mod_eq_of_lt (by omega)]
    omega
  by_cases h : s < t
  · rw [if_pos h]
    simp only [IntOp.cmpi, BitVec.slt, e _ hs, e _ ht]
    have : (s : ℤ) < (t : ℤ) := by exact_mod_cast h
    simp [this]
  · rw [if_neg h]
    simp only [IntOp.cmpi, BitVec.slt, e _ hs, e _ ht]
    have : ¬(s : ℤ) < (t : ℤ) := by exact_mod_cast h
    simp [this]

/-- Choosing by an earlier-than test. -/
theorem select_earlier (s t : Fin 256) (x y : EReal) :
    Scalar.select (IntOp.cmpi .slt (BitVec.ofNat 32 (s : ℕ)) (BitVec.ofNat 32 (t : ℕ))) x y = if s < t then x else y := by
  rw [earlier]
  by_cases h : s < t
  · rw [if_pos h, if_pos h]; rfl
  · rw [if_neg h, if_neg h]; rfl

/-- Finite factors give the product of the matrices they hold: an unknown against a power. -/
theorem timesSq_holds {u : FVec Ideal S64x256 .f32} {p : FVec Ideal S256x256 .f32} {U : Matrix (Fin 64) (Fin 256) ℝ}
    {P : Matrix (Fin 256) (Fin 256) ℝ} (hu : Holds u U) (hp : Holds p P) : Holds (timesSq u p) (U * P) := fun d t => by
  have h : timesSq u p (ix2 d t) = ∑ s : Fin 256, (u (ix2 d s) * p (ix2 s t) : EReal) := by pointwise [timesSq]
  rw [h, Matrix.mul_apply, ← coe_dot]
  exact Finset.sum_congr rfl fun s _ => by rw [hu d s, hp s t]

/-- A finite matrix squared is the square of the matrix it holds. -/
theorem power_holds {p : FVec Ideal S256x256 .f32} {P : Matrix (Fin 256) (Fin 256) ℝ} (hp : Holds p P) :
    Holds (matmul dot_S256x256_S256x256_S256x256_1_0_0_1_n_n none p p (constant S256x256 .f32 0x00000000#32)) (P * P) := fun i j => by
  have h : matmul dot_S256x256_S256x256_S256x256_1_0_0_1_n_n none p p (constant S256x256 .f32 0x00000000#32) (ix2 i j)
      = ∑ s : Fin 256, (p (ix2 i s) * p (ix2 s j) : EReal) := by pointwise
  rw [h, Matrix.mul_apply, ← coe_dot]
  exact Finset.sum_congr rfl fun s _ => by rw [hp i s, hp s j]

/-- The keys' scaled products, above the diagonal only. -/
theorem overlaps_holds {k : FVec Ideal S64x256 .f32} {a : FVec Ideal S1x1 .f32} {K : Matrix (Fin 64) (Fin 256) ℝ} {α : ℝ}
    (hk : Holds k K) (ha : a (ix2 0 0) = (α : EReal)) : Holds (overlaps k a) (above (α • (Kᵀ * K))) := fun s t => by
  have h : overlaps k a (ix2 s t) = Scalar.select (IntOp.cmpi .slt (BitVec.ofNat 32 (s : ℕ)) (BitVec.ofNat 32 (t : ℕ)))
      (a (ix2 0 0) * ∑ d : Fin 64, (k (ix2 d s) * k (ix2 d t) : EReal)) 0 := by pointwise [overlaps, k0_pay16]
  rw [h, select_earlier, above]
  by_cases hst : s < t
  · rw [if_pos hst, if_pos hst, Matrix.smul_apply, Matrix.mul_apply, smul_eq_mul, EReal.coe_mul, ← coe_dot, ha]
    refine congrArg (fun z : EReal => (α : EReal) * z) (Finset.sum_congr rfl fun d _ => ?_)
    rw [hk d s, hk d t, Matrix.transpose_apply]
  · rw [if_neg hst, if_neg hst, EReal.coe_zero]

/-- The right-hand side of the chunk's system. -/
theorem target_holds {k v : FVec Ideal S64x256 .f32} {s : FVec Ideal S64x64 .f32} {a b : FVec Ideal S1x1 .f32}
    {K V : Matrix (Fin 64) (Fin 256) ℝ} {S : Matrix (Fin 64) (Fin 64) ℝ} {α β : ℝ} (hk : Holds k K) (hv : Holds v V) (hs : Holds s S)
    (ha : a (ix2 0 0) = (α : EReal)) (hb : b (ix2 0 0) = (β : EReal)) : Holds (target k v s a b) (rhs α β S K V) := fun d t => by
  have h : target k v s a b (ix2 d t)
      = (b (ix2 0 0) * v (ix2 d t) - a (ix2 0 0) * ∑ e : Fin 64, (s (ix2 d e) * k (ix2 e t) : EReal) : EReal) := by pointwise [target]
  have hsum : ∑ e : Fin 64, (s (ix2 d e) * k (ix2 e t) : EReal) = (((S * K) d t : ℝ) : EReal) := by
    rw [Matrix.mul_apply, ← coe_dot]
    exact Finset.sum_congr rfl fun e _ => by rw [hs d e, hk e t]
  rw [h, hsum, ha, hb, hv d t, rhs, Matrix.sub_apply, Matrix.smul_apply, Matrix.smul_apply, smul_eq_mul, smul_eq_mul, EReal.coe_sub,
    EReal.coe_mul, EReal.coe_mul]

/-- Every round of the doubling holds the real one. -/
theorem sweep_holds {n : FVec Ideal S256x256 .f32} {r : FVec Ideal S64x256 .f32} {N : Matrix (Fin 256) (Fin 256) ℝ}
    {R : Matrix (Fin 64) (Fin 256) ℝ} (hn : Holds n N) (hr : Holds r R) :
    ∀ j, Holds (sweep n r j).1 (rounds N R j).1 ∧ Holds (sweep n r j).2 (rounds N R j).2
  | 0 => by
    refine ⟨hn, fun d t => ?_⟩
    have h : (sweep n r 0).2 (ix2 d t) = (r (ix2 d t) - timesSq r n (ix2 d t) : EReal) := rfl
    rw [h, hr d t, timesSq_holds hr hn d t, ← EReal.coe_sub]; rfl
  | j + 1 => by
    obtain ⟨h1, h2⟩ := sweep_holds hn hr j
    have hp := power_holds h1
    refine ⟨hp, fun d t => ?_⟩
    have h : (sweep n r (j + 1)).2 (ix2 d t) = ((sweep n r j).2 (ix2 d t) + timesSq (sweep n r j).2
        (matmul dot_S256x256_S256x256_S256x256_1_0_0_1_n_n none (sweep n r j).1 (sweep n r j).1 (constant S256x256 .f32 0x00000000#32))
          (ix2 d t) : EReal) := rfl
    rw [h, h2 d t, timesSq_holds h2 hp d t, ← EReal.coe_add]; rfl

/-- What the head is given: real keys (already of unit length), values, state and rates. -/
structure Given (k v : Vec Ideal S1x64x256 .f32) (s : Vec Ideal S1x1x64x64 .f32) (ab : FVec Ideal S2x16 .f32) (h : Fin 16)
    (K V : Matrix (Fin 64) (Fin 256) ℝ) (S : Matrix (Fin 64) (Fin 64) ℝ) (α β : ℝ) : Prop where
  keys : Holds (unitKeys k) K
  values : ∀ d t, v (ix3 (0 : Fin 1) d t) = ((V d t : ℝ) : EReal)
  state : ∀ d e, s (ix4 (0 : Fin 1) (0 : Fin 1) d e) = ((S d e : ℝ) : EReal)
  decay : ab (ix2 (0 : Fin 2) h) = (α : EReal)
  write : ab (ix2 (1 : Fin 2) h) = (β : EReal)

/-- A rate taken out of its table. -/
theorem rate_apply (g : Fin 2) (h : Fin 16) (ab : FVec Ideal S2x16 .f32) : rate g h ab (ix2 0 0) = ab (ix2 g h) := by
  pointwise [rate]

/-- A head's columns without their leading axis. -/
theorem cols_apply (x : Vec Ideal S1x64x256 .f32) (d : Fin 64) (t : Fin 256) : cols x (ix2 d t) = x (ix3 (0 : Fin 1) d t) := by
  pointwise [cols]

/-- A head's state without its leading axes. -/
theorem square_apply (x : Vec Ideal S1x1x64x64 .f32) (d e : Fin 64) : square x (ix2 d e) = x (ix4 (0 : Fin 1) (0 : Fin 1) d e) := by
  pointwise [square]

variable {k v : Vec Ideal S1x64x256 .f32} {s : Vec Ideal S1x1x64x64 .f32} {ab : FVec Ideal S2x16 .f32} {h : Fin 16}
  {K V : Matrix (Fin 64) (Fin 256) ℝ} {S : Matrix (Fin 64) (Fin 64) ℝ} {α β : ℝ}

/-- The head's solution is the real one. -/
theorem gains_holds (g : Given k v s ab h K V S α β) : Holds (gains k v s ab h) (solve α β S K V) :=
  (sweep_holds (overlaps_holds g.keys ((rate_apply 0 h ab).trans g.decay))
    (target_holds g.keys (fun d t => (cols_apply v d t).trans (g.values d t)) (fun d e => (square_apply s d e).trans (g.state d e))
      ((rate_apply 0 h ab).trans g.decay) ((rate_apply 1 h ab).trans g.write)) 7).2

/-- The head's state after the chunk is the real one. -/
theorem leaves_apply (g : Given k v s ab h K V S α β) (d e : Fin 64) :
    leaves k v s ab h (ix4 (0 : Fin 1) (0 : Fin 1) d e) = (((S + solve α β S K V * Kᵀ) d e : ℝ) : EReal) := by
  have hl : leaves k v s ab h (ix4 (0 : Fin 1) (0 : Fin 1) d e)
      = (s (ix4 (0 : Fin 1) (0 : Fin 1) d e) + ∑ t : Fin 256, (gains k v s ab h (ix2 d t) * unitKeys k (ix2 e t) : EReal) : EReal) := by
    pointwise [leaves, square]
  have hsum : ∑ t : Fin 256, (gains k v s ab h (ix2 d t) * unitKeys k (ix2 e t) : EReal) = (((solve α β S K V * Kᵀ) d e : ℝ) : EReal) := by
    rw [Matrix.mul_apply, ← coe_dot]
    exact Finset.sum_congr rfl fun t _ => by rw [gains_holds g d t, g.keys e t, Matrix.transpose_apply]
  rw [hl, hsum, g.state d e, ← EReal.coe_add, Matrix.add_apply]

/-- What the head's tokens read is the real one. -/
theorem reads_apply (g : Given k v s ab h K V S α β) {q : Vec Ideal S1x64x256 .f32} {Q : Matrix (Fin 64) (Fin 256) ℝ}
    (hq : ∀ d t, q (ix3 (0 : Fin 1) d t) = ((Q d t : ℝ) : EReal)) (d : Fin 64) (t : Fin 256) :
    reads q k v s ab h (ix3 (0 : Fin 1) d t) = (((S * Q + solve α β S K V * above (Kᵀ * Q)) d t : ℝ) : EReal) := by
  have hr : reads q k v s ab h (ix3 (0 : Fin 1) d t)
      = ((∑ e : Fin 64, (s (ix4 (0 : Fin 1) (0 : Fin 1) d e) * q (ix3 (0 : Fin 1) e t) : EReal))
        + ∑ r : Fin 256, (gains k v s ab h (ix2 d r) * Scalar.select (IntOp.cmpi .slt (BitVec.ofNat 32 (r : ℕ)) (BitVec.ofNat 32 (t : ℕ)))
          (∑ e : Fin 64, (unitKeys k (ix2 e r) * q (ix3 (0 : Fin 1) e t) : EReal)) 0 : EReal) : EReal) := by
    pointwise [reads, square, cols, timesSq, k0_pay16]
  have h1 : ∑ e : Fin 64, (s (ix4 (0 : Fin 1) (0 : Fin 1) d e) * q (ix3 (0 : Fin 1) e t) : EReal) = (((S * Q) d t : ℝ) : EReal) := by
    rw [Matrix.mul_apply, ← coe_dot]
    exact Finset.sum_congr rfl fun e _ => by rw [g.state d e, hq e t]
  have h2 : ∀ r : Fin 256, Scalar.select (IntOp.cmpi .slt (BitVec.ofNat 32 (r : ℕ)) (BitVec.ofNat 32 (t : ℕ)))
      (∑ e : Fin 64, (unitKeys k (ix2 e r) * q (ix3 (0 : Fin 1) e t) : EReal)) 0 = ((above (Kᵀ * Q) r t : ℝ) : EReal) := fun r => by
    rw [select_earlier, above]
    by_cases hrt : r < t
    · rw [if_pos hrt, if_pos hrt, Matrix.mul_apply, ← coe_dot]
      exact Finset.sum_congr rfl fun e _ => by rw [g.keys e r, hq e t, Matrix.transpose_apply]
    · rw [if_neg hrt, if_neg hrt, EReal.coe_zero]
  rw [hr, h1, Matrix.add_apply, EReal.coe_add]
  refine congrArg (fun z : EReal => (((S * Q) d t : ℝ) : EReal) + z) ?_
  rw [Matrix.mul_apply, ← coe_dot]
  exact Finset.sum_congr rfl fun r _ => by rw [gains_holds g d r, h2 r]

end Cert.KernelIdeal.Head

end
-- ==== Proof.Kernel.lean ====
/- What the kernel's points compute, over exact numbers: by induction along the chunks of a pair of batches, the carried
   states are the problem's states and the output blocks the problem's output. -/
module

public import proofs.«01_k».proof.Proof.Points
public import proofs.«01_k».proof.Proof.Inputs
public import proofs.«01_k».proof.Proof.Lift

@[expose] public section

set_option maxRecDepth 16384

noncomputable section

namespace Cert.KernelIdeal.Head

open Cert.KernelIdeal Cert.KernelIdeal.Gen Idealize.ShloMosaic Idealize.ShloMosaic.TcCoe Idealize.SL.Sem
open Cert.Delta Matrix

variable (m : (ℓ : Loc nD τ sig) → Buf (Elt Ideal) ℓ) (c : Dev nD)

/-- The problem's arguments, as the kernel's memory holds them. -/
def args : Args where
  x := fun b t j => (m ((c : Thread nD τ).loc main_arg0) : FVec Ideal S4x2048x1024 .f32) (ix3 b t j)
  wq := fun r j => (m ((c : Thread nD τ).loc main_arg1) : FVec Ideal S1024x1024 .f32) (ix2 r j)
  wk := fun r j => (m ((c : Thread nD τ).loc main_arg2) : FVec Ideal S1024x1024 .f32) (ix2 r j)
  wv := fun r j => (m ((c : Thread nD τ).loc main_arg3) : FVec Ideal S1024x1024 .f32) (ix2 r j)
  wo := fun r j => (m ((c : Thread nD τ).loc main_arg4) : FVec Ideal S1024x1024 .f32) (ix2 r j)
  a := fun h => (m ((c : Thread nD τ).loc main_arg5) : FVec Ideal S1x16x1x1 .f32) (ix4 (0 : Fin 1) h (0 : Fin 1) (0 : Fin 1))
  b := fun h => (m ((c : Thread nD τ).loc main_arg6) : FVec Ideal S1x16x1x1 .f32) (ix4 (0 : Fin 1) h (0 : Fin 1) (0 : Fin 1))
  s := fun b h d e => (m ((c : Thread nD τ).loc main_arg7) : FVec Ideal S4x16x64x64 .f32) (ix4 b h d e)

/-! ## Blocks of the projected tokens -/

/-- A head's rows of a batch, read out of the projected tokens. -/
theorem ld_block (q : Vec Ideal S2x1024x256 .f32) (b : Fin 2) (h : Fin 16) (d : Fin 64) (t : Fin 256) :
    View.ld q (blockRect b h) (ix3 (0 : Fin 1) d t) = q (ix3 b (rowAt h d) t) := congrArg q (block_emb b h d t)

/-- A head's state, read out of all states. -/
theorem ld_cell (s : Vec Ideal S2x16x64x64 .f32) (b : Fin 2) (h : Fin 16) (d e : Fin 64) :
    View.ld s (cellRect b h) (ix4 (0 : Fin 1) (0 : Fin 1) d e) = s (ix4 b h d e) := congrArg s (cell_emb b h d e)

/-- A projected entry: the token against the weight's row. -/
theorem projected_apply (w : Vec Ideal S1024x1024 .f32) (x : Vec Ideal S2x256x1024 .f32) (b : Fin 2) (r : Fin 1024) (t : Fin 256) :
    projected w x (ix3 b r t) = ∑ j : Fin 1024, (x (ix3 b t j) * w (ix2 r j) : EReal) := by
  have h : project w (View.ld x (tokensRect b)) (ix3 (0 : Fin 1) r t)
      = ∑ j : Fin 1024, (w (ix2 r j) * View.ld x (tokensRect b) (ix3 (0 : Fin 1) t j) : EReal) := by
    pointwise [project]
  refine Eq.trans h (Finset.sum_congr rfl fun j _ => ?_)
  rw [mul_comm]
  exact congrArg (fun z : EReal => z * w (ix2 r j)) (congrArg x (tokens_emb b t j))

/-- A head's row in scratch is the problem's column. -/
theorem rowAt_eq (h : Fin 16) (d : Fin 64) : rowAt h d = column h d := Fin.ext (by show 64 * h.val + d.val = h.val * 64 + d.val; omega)

/-- An entry of a head's scaled keys. -/
theorem unitKeys_apply (k : Vec Ideal S1x64x256 .f32) (d : Fin 64) (t : Fin 256) :
    unitKeys k (ix2 d t) = unitOf (fun e => k (ix3 (0 : Fin 1) e t)) d := by
  pointwise [unitKeys, cols, unitOf]

/-- An entry of the table of rates. -/
theorem rates_apply (x : Vec Ideal S2x16 .f32) (g : Fin 2) (h : Fin 16) : k0_pay15 (F := Ideal) x (ix2 g h) = rateOf (x (ix2 g h)) := by
  pointwise [k0_pay15, rateOf]

/-- The tokens of a point are the problem's tokens from its chunk's first on. -/
theorem token_eq (t : Fin cfg0.N) (j : Fin 256) : token (256 * (t.val % 8) + j.val) = tokenOf t j :=
  Fin.ext (Nat.mod_eq_of_lt (tokenOf t j).isLt)

variable (t : Fin cfg0.N)

/-- A projected token of a point, by its head and place. -/
theorem projected_at (w : Vec Ideal S1024x1024 .f32) (b : Fin 2) (h : Fin 16) (d : Fin 64) (j : Fin 256) :
    View.ld (projected w (iblk m c 0 t)) (blockRect b h) (ix3 (0 : Fin 1) d j)
      = proj (args m c).x (fun r i => w (ix2 r i)) (batchOf t b) (token (256 * (t.val % 8) + j.val)) (column h d) := by
  rw [ld_block, rowAt_eq, projected_apply, token_eq]
  exact Finset.sum_congr rfl fun i _ => congrArg (fun z : EReal => z * w (ix2 (column h d) i)) (iblk_tokens m c t b j i)

variable {m c t}

/-- What a head's chunk is given, when the states found are the problem's states before the chunk. -/
theorem given (f : (args m c).Finite) (b : Fin 2) (h : Fin 16)
    (hs : ∀ d e, found m c t (ix4 b h d e) = (((args m c).state (batchOf t b) h (256 * (t.val % 8)) d e : ℝ) : EReal)) :
    Given (View.ld (keysAt m c t) (blockRect b h)) (View.ld (valuesAt m c t) (blockRect b h)) (View.ld (found m c t) (cellRect b h))
      (ratesAt m c t) h ((args m c).keysFrom (batchOf t b) h (256 * (t.val % 8)))
      ((args m c).valuesFrom (batchOf t b) h (256 * (t.val % 8)))
      ((args m c).state (batchOf t b) h (256 * (t.val % 8))) ((args m c).decay h) ((args m c).write h) where
  keys := fun d j => by
    refine (unitKeys_apply _ d j).trans (Eq.trans ?_ (Args.key_coe _ _ _ _))
    refine congrArg (fun y => unitOf y d) ?_
    funext e
    rw [keysAt, iblk_wk]
    exact projected_at m c t _ b h e j
  values := fun d j => by
    rw [valuesAt, iblk_wv]
    exact (projected_at m c t _ b h d j).trans (Args.value_coe f _ _ _ _)
  state := fun d e => (ld_cell _ b h d e).trans (hs d e)
  decay := by
    rw [← Args.decay_coe, ratesAt, rates_apply, iblk_table, table_decay]; rfl
  write := by
    rw [← Args.write_coe, ratesAt, rates_apply, iblk_table, table_write]; rfl

/-- The states a point leaves are the problem's states after its chunk, if those found are the ones before it. -/
theorem states_after (f : (args m c).Finite) (b : Fin 2) (h : Fin 16)
    (hs : ∀ d e, found m c t (ix4 b h d e) = (((args m c).state (batchOf t b) h (256 * (t.val % 8)) d e : ℝ) : EReal)) (d e : Fin 64) :
    (outsAt0 m c t.val t.isLt).2.2 (ix4 b h d e) = (((args m c).state (batchOf t b) h (256 * (t.val % 8) + 256) d e : ℝ) : EReal) := by
  rw [point_states]
  refine (leaves_apply (given f b h hs) d e).trans ?_
  exact congrArg (fun M : Matrix (Fin 64) (Fin 64) ℝ => ((M d e : ℝ) : EReal)) ((args m c).state_chunk (batchOf t b) h (256 * (t.val % 8)))

/-- The states found at every point are the problem's before its chunk. -/
theorem found_eq (f : (args m c).Finite) (b : Fin 2) (h : Fin 16) : ∀ (n : ℕ) (hn : n < cfg0.N) (d e : Fin 64),
    found m c ⟨n, hn⟩ (ix4 b h d e) = (((args m c).state (batchOf ⟨n, hn⟩ b) h (256 * (n % 8)) d e : ℝ) : EReal) := by
  intro n
  induction n with
  | zero =>
    intro hn d e
    rw [found, if_pos (Nat.zero_mod 8)]
    exact (iblk_states m c ⟨0, hn⟩ b h d e).trans (Args.start_coe f _ h d e)
  | succ n ih =>
    intro hn d e
    by_cases h0 : (n + 1) % 8 = 0
    · rw [found, if_pos h0, h0]
      exact (iblk_states m c ⟨n + 1, hn⟩ b h d e).trans (Args.start_coe f _ h d e)
    · rw [found, if_neg h0]
      refine (states_after (t := ⟨n, Nat.lt_of_succ_lt hn⟩) f b h (ih (Nat.lt_of_succ_lt hn)) d e).trans ?_
      have h1 : batchOf ⟨n, Nat.lt_of_succ_lt hn⟩ b = batchOf ⟨n + 1, hn⟩ b := Fin.ext (by
        show 2 * (n / 8) + b.val = 2 * ((n + 1) / 8) + b.val; omega)
      have h2 : 256 * (n % 8) + 256 = 256 * ((n + 1) % 8) := by omega
      rw [h1, h2]

/-- The states every point leaves. -/
theorem states_eq (f : (args m c).Finite) (t : Fin cfg0.N) (b : Fin 2) (h : Fin 16) (d e : Fin 64) :
    (outsAt0 m c t.val t.isLt).2.2 (ix4 b h d e) = (((args m c).state (batchOf t b) h (256 * (t.val % 8) + 256) d e : ℝ) : EReal) :=
  states_after f b h (found_eq f b h t.val t.isLt) d e

/-- What every point's tokens read. -/
theorem reads_eq (f : (args m c).Finite) (t : Fin cfg0.N) (b : Fin 2) (r : Fin 1024) (j : Fin 256) :
    readAll (queriesAt m c t) (keysAt m c t) (valuesAt m c t) (found m c t) (ratesAt m c t) (ix3 b r j)
      = (((args m c).read (batchOf t b) (headIx r) (tokenOf t j) (laneIx r) : ℝ) : EReal) := by
  refine (reads_apply (given f b (headIx r) (found_eq f b (headIx r) t.val t.isLt))
    (Q := (args m c).queriesFrom (batchOf t b) (headIx r) (256 * (t.val % 8))) (fun d j => ?_) (laneIx r) j).trans ?_
  · rw [queriesAt, iblk_wq]
    exact (projected_at m c t _ b (headIx r) d j).trans (Args.query_coe f _ _ _ _)
  · exact congrArg (fun z : ℝ => (z : EReal)) ((args m c).read_chunk (batchOf t b) (headIx r) (256 * (t.val % 8)) (laneIx r) j)

/-- Every point's output block. -/
theorem output_eq (f : (args m c).Finite) (t : Fin cfg0.N) (b : Fin 2) (j : Fin 256) (r : Fin 1024) :
    (outsAt0 m c t.val t.isLt).1 (ix3 b j r) = (args m c).out (batchOf t b) (tokenOf t j) r := by
  rw [point_output, iblk_wo]
  have h : ∀ (y : Vec Ideal S1x1024x256 .f32) (w : Vec Ideal S1024x1024 .f32),
      output y w (ix3 (0 : Fin 1) j r) = ∑ i : Fin 1024, (y (ix3 (0 : Fin 1) i j) * w (ix2 r i) : EReal) := fun y w => by
    pointwise [output]
  refine (h _ _).trans (Finset.sum_congr rfl fun i _ => ?_)
  refine congrArg (fun z : EReal => z * (args m c).wo r i) ?_
  exact (congrArg _ (plane_emb b i j)).trans (reads_eq f t b i j)

end Cert.KernelIdeal.Head

end
-- ==== Proof.Results.lean ====
/- What the kernel's results hold at the run's end, over exact numbers: each result's block holding an index is the one its
   point left, so the two results are the problem's output and its states after all 2048 tokens. -/
module

public import proofs.«01_k».proof.Proof.Kernel
public import proofs.«01_k».proof.Proof.Gen.KernelIdeal.Value

@[expose] public section

set_option maxRecDepth 16384

noncomputable section

namespace Cert.KernelIdeal.Head

open Cert.KernelIdeal Cert.KernelIdeal.Gen Idealize.ShloMosaic Idealize.ShloMosaic.TcCoe Idealize.SL.Sem
open Cert.Delta

variable (m : (ℓ : Loc nD τ sig) → Buf (Elt Ideal) ℓ) (c : Dev nD)

/-- The first result at any index: the problem's output. -/
theorem first_result (f : (args m c).Finite) (b : Fin 4) (t : Fin 2048) (r : Fin 1024) :
    (Value.G7 m c : FVec Ideal S4x2048x1024 .f32) (ix3 b t r) = (args m c).out b t r := by
  have hb := b.isLt
  have ht := t.isLt
  have hr := r.isLt
  have hp : Value.pt7Of (ix3 b t r) = 8 * (b.val / 2) + t.val / 256 := by
    show 8 * (b.val / 2 - 0) + 1 * (t.val / 256 - 0) + 1 * (r.val / 1024 - 0) = _
    omega
  have hn : Value.pt7Of (ix3 b t r) < cfg0.N := by rw [hp]; exact lt_of_lt_of_eq (by omega) N_0.symm
  have hl : Value.loc7Of (ix3 b t r) = ix3 (⟨b.val % 2, Nat.mod_lt _ (by decide)⟩ : Fin 2) (⟨t.val % 256, Nat.mod_lt _ (by decide)⟩ : Fin 256) r := by
    funext a
    apply Fin.ext
    match a with
    | ⟨0, _⟩ => rfl
    | ⟨1, _⟩ => rfl
    | ⟨2, _⟩ => exact Nat.mod_eq_of_lt hr
  have hB : batchOf ⟨Value.pt7Of (ix3 b t r), hn⟩ (⟨b.val % 2, Nat.mod_lt _ (by decide)⟩ : Fin 2) = b := Fin.ext (by
    show 2 * (Value.pt7Of (ix3 b t r) / 8) + b.val % 2 = b.val
    rw [hp]; omega)
  have hT : tokenOf ⟨Value.pt7Of (ix3 b t r), hn⟩ (⟨t.val % 256, Nat.mod_lt _ (by decide)⟩ : Fin 256) = t := Fin.ext (by
    show 256 * (Value.pt7Of (ix3 b t r) % 8) + t.val % 256 = t.val
    rw [hp]; omega)
  refine (dif_pos hn).trans ?_
  rw [← Value.outsAt0_sweep m c _ hn, hl]
  refine (output_eq f ⟨_, hn⟩ _ _ r).trans ?_
  rw [hB, hT]

/-- The second result at any index: the problem's states after the last token. -/
theorem second_result (f : (args m c).Finite) (b : Fin 4) (h : Fin 16) (d e : Fin 64) :
    (Value.G8 m c : FVec Ideal S4x16x64x64 .f32) (ix4 b h d e) = (((args m c).state b h 2048 d e : ℝ) : EReal) := by
  have hb := b.isLt
  have hh := h.isLt
  have hd := d.isLt
  have he := e.isLt
  have hp : Value.pt8Of (ix4 b h d e) = 8 * (b.val / 2) + 7 := by
    show 8 * (1 * (b.val / 2 - 0) + 1 * (h.val / 16 - 0) + 1 * (d.val / 64 - 0) + 1 * (e.val / 64 - 0)) + 7 = _
    omega
  have hn : Value.pt8Of (ix4 b h d e) < cfg0.N := by rw [hp]; exact lt_of_lt_of_eq (by omega) N_0.symm
  have hl : Value.loc8Of (ix4 b h d e) = ix4 (⟨b.val % 2, Nat.mod_lt _ (by decide)⟩ : Fin 2) h d e := by
    funext a
    apply Fin.ext
    match a with
    | ⟨0, _⟩ => rfl
    | ⟨1, _⟩ => exact Nat.mod_eq_of_lt hh
    | ⟨2, _⟩ => exact Nat.mod_eq_of_lt hd
    | ⟨3, _⟩ => exact Nat.mod_eq_of_lt he
  have hB : batchOf ⟨Value.pt8Of (ix4 b h d e), hn⟩ (⟨b.val % 2, Nat.mod_lt _ (by decide)⟩ : Fin 2) = b := Fin.ext (by
    show 2 * (Value.pt8Of (ix4 b h d e) / 8) + b.val % 2 = b.val
    rw [hp]; omega)
  have h7 : Value.pt8Of (ix4 b h d e) % 8 = 7 := by rw [hp]; omega
  refine (dif_pos hn).trans ?_
  rw [← Value.outsAt0_sweep m c _ hn, hl]
  refine (congrFun (point_final m c ⟨_, hn⟩ h7) _).trans ((states_eq f ⟨_, hn⟩ _ h d e).trans ?_)
  rw [hB]
  show (((args m c).state b h (256 * (Value.pt8Of (ix4 b h d e) % 8) + 256) d e : ℝ) : EReal) = _
  rw [h7]

end Cert.KernelIdeal.Head

end
-- ==== Proof.Entry.lean ====
/- What the reference's loop finds at its entry: the queries, keys and values of every token, the two rates and the
   entry states, entry by entry, as functions of the arguments. -/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Trip

open Cert.ReferenceIdeal Cert.ReferenceIdeal.Gen Cert.ReferenceIdeal.Value
open Idealize.ShloMosaic Idealize.ShloMosaic.TcCoe Idealize.SL.Sem
open Cert.Delta Idealize.ShloMosaic.StableHlo

/-- The tokens against a weight, split into heads. -/
def heads (x : FVec Ideal S4x2048x1024 .f32) (w : FVec Ideal S1024x1024 .f32) : FVec Ideal S4x16x2048x64 .f32 :=
  transpose S4x16x2048x64 [0, 2, 1, 3] (shapeCast S4x2048x16x64 (Host.dotGeneral dot_S4x2048x1024_S1024x1024_S4x2048x1024_2_0_01_1_n_n none x
    (transpose S1024x1024 [1, 0] w transposes_S1024x1024_S1024x1024_1_0)) shapeCasts_S4x2048x1024_S4x2048x16x64)
    transposes_S4x2048x16x64_S4x16x2048x64_0_2_1_3

/-- The same with the tokens in front. -/
def byToken (y : FVec Ideal S4x16x2048x64 .f32) : FVec Ideal S2048x4x16x64 .f32 :=
  transpose S2048x4x16x64 [2, 0, 1, 3] y transposes_S4x16x2048x64_S2048x4x16x64_2_0_1_3

/-- The heads scaled to unit length. -/
def unitHeads (y : FVec Ideal S4x16x2048x64 .f32) : FVec Ideal S4x16x2048x64 .f32 :=
  Host.divf y (broadcastInDim S4x16x2048x64 ![0, 1, 2, 3] bcast_S4x16x2048x1_S4x16x2048x64_0_1_2_3
    (maximumf (Host.sqrt (broadcastInDim S4x16x2048x1 ![0, 1, 2] bcast_S4x16x2048_S4x16x2048x1_0_1_2
      (Host.reduceAdd (mulf y y) (constant S_ .f32 0x00000000#32) reducesTo_S4x16x2048x64_S4x16x2048_d3 h_S_)))
      (broadcastInDim S4x16x2048x1 ![] bcast_S_S4x16x2048x1 (constant S_ .f32 0x2B8CBCCC#32))))

/-- A rate of every head from its raw parameter. -/
def rates (a : FVec Ideal S1x16x1x1 .f32) : FVec Ideal S1x16x1x1 .f32 :=
  mulf (Host.divf (broadcastInDim S1x16x1x1 ![] bcast_S_S1x16x1x1 (constant S_ .f32 0x3F800000#32))
    (addf (broadcastInDim S1x16x1x1 ![] bcast_S_S1x16x1x1 (constant S_ .f32 0x3F800000#32)) (Host.exp (Host.negf a))))
    (broadcastInDim S1x16x1x1 ![] bcast_S_S1x16x1x1 (constant S_ .f32 0x3F000000#32))

/-- A projection's entry: the token against the weight's row of that head's place. -/
theorem heads_apply (x : FVec Ideal S4x2048x1024 .f32) (w : FVec Ideal S1024x1024 .f32) (b : Fin 4) (h : Fin 16) (t : Fin 2048) (d : Fin 64) :
    heads x w (ix4 b h t d) = proj (fun b t j => x (ix3 b t j)) (fun r j => w (ix2 r j)) b t (column h d) := by
  pointwise [heads, proj, column]

/-- Moving the tokens to the front moves every entry. -/
theorem byToken_apply (y : FVec Ideal S4x16x2048x64 .f32) (t : Fin 2048) (b : Fin 4) (h : Fin 16) (d : Fin 64) :
    byToken y (ix4 t b h d) = y (ix4 b h t d) := by
  pointwise [byToken]

/-- An entry of a scaled head. -/
theorem unitHeads_apply (y : FVec Ideal S4x16x2048x64 .f32) (b : Fin 4) (h : Fin 16) (t : Fin 2048) (d : Fin 64) :
    unitHeads y (ix4 b h t d) = unitOf (fun d => y (ix4 b h t d)) d := by
  pointwise [unitHeads, unitOf]

/-- A head's rate is the rate of its raw parameter. -/
theorem rates_apply (a : FVec Ideal S1x16x1x1 .f32) (h : Fin 16) :
    rates a (ix4 (0 : Fin 1) h (0 : Fin 1) (0 : Fin 1)) = rateOf (a (ix4 (0 : Fin 1) h (0 : Fin 1) (0 : Fin 1))) := by
  pointwise [rates, rateOf, Ideal.logistic]
  exact mul_comm _ _

variable (m : (ℓ : Loc nD τ sig) → Buf (Elt Ideal) ℓ) (c : Dev nD)

/-- The loop is entered with the queries, tokens in front. -/
theorem entry_queries : entryContents preI m c (Proc.devRef .tc main_v37_0)
    = byToken (heads (m ((c.tc : Thread nD τ).loc main_arg0)) (m ((c.tc : Thread nD τ).loc main_arg1))) := by
  simp only [entryContents, afterL_cons, afterL_nil]
  after_reads_simp
  rfl

/-- The loop is entered with the keys scaled to unit length, tokens in front. -/
theorem entry_keys : entryContents preI m c (Proc.devRef .tc main_v37_1)
    = byToken (unitHeads (heads (m ((c.tc : Thread nD τ).loc main_arg0)) (m ((c.tc : Thread nD τ).loc main_arg2)))) := by
  simp only [entryContents, afterL_cons, afterL_nil]
  after_reads_simp
  rfl

/-- The loop is entered with the values, tokens in front. -/
theorem entry_values : entryContents preI m c (Proc.devRef .tc main_v37_2)
    = byToken (heads (m ((c.tc : Thread nD τ).loc main_arg0)) (m ((c.tc : Thread nD τ).loc main_arg3))) := by
  simp only [entryContents, afterL_cons, afterL_nil]
  after_reads_simp
  rfl

/-- The loop is entered with the decay's rates. -/
theorem entry_decay : entryContents preI m c (Proc.devRef .tc main_v37_3) = rates (m ((c.tc : Thread nD τ).loc main_arg5)) := by
  simp only [entryContents, afterL_cons, afterL_nil]
  after_reads_simp
  rfl

/-- The loop is entered with the write's rates. -/
theorem entry_write : entryContents preI m c (Proc.devRef .tc main_v37_4) = rates (m ((c.tc : Thread nD τ).loc main_arg6)) := by
  simp only [entryContents, afterL_cons, afterL_nil]
  after_reads_simp
  rfl

/-- The loop is entered with the states given. -/
theorem entry_states : entryContents preI m c (Proc.devRef .tc main_v37_6) = m ((c.tc : Thread nD τ).loc main_arg7) := by
  simp only [entryContents, afterL_cons, afterL_nil]
  after_reads_simp
  rfl

/-- The loop is entered with the output weights given. -/
theorem entry_out_weights : entryContents preI m c (Proc.devRef .tc main_arg4) = m ((c.tc : Thread nD τ).loc main_arg4) := by
  simp only [entryContents, afterL_cons, afterL_nil]
  after_reads_simp

end Cert.ReferenceIdeal.Trip

end
-- ==== Proof.Trip.lean ====
/- One trip of the reference's loop: what it makes of the states and of the reads, entry by entry. -/
module

public import proofs.«01_k».proof.Proof.Gen.ReferenceIdeal.Run
public import Idealize.ShloMosaic.Lib.Pointwise

@[expose] public section

set_option maxRecDepth 16384

noncomputable section

namespace Cert.ReferenceIdeal.Trip

open Cert.ReferenceIdeal Cert.ReferenceIdeal.Gen Cert.ReferenceIdeal.Value
open Idealize.ShloMosaic Idealize.ShloMosaic.TcCoe Idealize.SL.Sem

/-- The starts of the loop's slices, from its counter. -/
def starts (C : (⟨S_, .i32⟩ : BufTy).Contents (Elt Ideal)) : Fin 4 → Int := fun k =>
  (((![C, constantI S_ 32 0#32, constantI S_ 32 0#32, constantI S_ 32 0#32] : Fin 4 → (⟨S_, .i32⟩ : BufTy).Contents (Elt Ideal))) k
    (Shape.Idx.first h_S_)).toInt

/-- The token's slice of an array whose leading axis is the tokens. -/
def slice (X : FVec Ideal S2048x4x16x64 .f32) (C : (⟨S_, .i32⟩ : BufTy).Contents (Elt Ideal)) : FVec Ideal S4x16x64 .f32 :=
  shapeCast S4x16x64 (Host.dynamicSlice S1x4x16x64 X (starts C) sliceFits_S2048x4x16x64_S1x4x16x64) shapeCasts_S1x4x16x64_S4x16x64

/-- The array with the token's slice replaced. -/
def put (Y : FVec Ideal S2048x4x16x64 .f32) (U : FVec Ideal S4x16x64 .f32) (C : (⟨S_, .i32⟩ : BufTy).Contents (Elt Ideal)) :
    FVec Ideal S2048x4x16x64 .f32 :=
  Host.dynamicUpdateSlice Y (broadcastInDim S1x4x16x64 ![1, 2, 3] bcast_S4x16x64_S1x4x16x64_1_2_3 U) (starts C)
    updateFits_S2048x4x16x64_S1x4x16x64

/-- The starts at token `n`, none moved by the clamp. -/
theorem clamped (n : Fin 2048) (a : Fin 4) :
    Host.clampedStart S2048x4x16x64 S1x4x16x64 rfl (starts fun _ => BitVec.ofNat 32 (n : ℕ)) a = (![(n : ℕ), 0, 0, 0] : Fin 4 → ℕ) a := by
  have hn := n.isLt
  have e : (BitVec.ofNat 32 (n : ℕ)).toInt = (n : ℕ) := by
    rw [BitVec.toInt_eq_toNat_cond, BitVec.toNat_ofNat, Nat.mod_eq_of_lt (by omega), if_pos (by omega)]
  match a with
  | 0 => exact Host.clampedStart_of_le _ _ _ _ e (show (n : ℕ) + 1 ≤ 2048 by omega)
  | 1 => exact Host.clampedStart_of_le _ _ _ _ (show (0#32).toInt = ((0 : ℕ) : ℤ) by decide) (show 0 + 4 ≤ 4 by omega)
  | 2 => exact Host.clampedStart_of_le _ _ _ _ (show (0#32).toInt = ((0 : ℕ) : ℤ) by decide) (show 0 + 16 ≤ 16 by omega)
  | 3 => exact Host.clampedStart_of_le _ _ _ _ (show (0#32).toInt = ((0 : ℕ) : ℤ) by decide) (show 0 + 64 ≤ 64 by omega)

/-- The slice at token `n` holds that token's entries. -/
theorem slice_apply (X : FVec Ideal S2048x4x16x64 .f32) (n : Fin 2048) (b : Fin 4) (h : Fin 16) (d : Fin 64) :
    slice X (fun _ => BitVec.ofNat 32 (n : ℕ)) (ix3 b h d) = X (ix4 n b h d) := by
  have h0 := clamped n 0
  have h1 := clamped n 1
  have h2 := clamped n 2
  have h3 := clamped n 3
  pointwise [slice]
  simp only [h0, h1, h2, h3]
  simp

/-- Replacing token `n`'s slice changes that token's entries and no other. -/
theorem put_apply (Y : FVec Ideal S2048x4x16x64 .f32) (U : FVec Ideal S4x16x64 .f32) (n i : Fin 2048) (b : Fin 4) (h : Fin 16) (d : Fin 64) :
    put Y U (fun _ => BitVec.ofNat 32 (n : ℕ)) (ix4 i b h d) = if i = n then U (ix3 b h d) else Y (ix4 i b h d) := by
  have h0 := clamped n 0
  have h1 := clamped n 1
  have h2 := clamped n 2
  have h3 := clamped n 3
  pointwise [put]
  simp only [h0, h1, h2, h3]
  by_cases hi : i = n
  · subst hi; simp
  · have : ¬ ((n : ℕ) ≤ i ∧ (i : ℕ) < n + 1) := fun hh => hi (Fin.ext (by omega))
    simp [hi]
    omega

/-- A trip's states, from the states, the rates, the token's keys and values. -/
def stepStates (S : FVec Ideal S4x16x64x64 .f32) (a b : FVec Ideal S1x16x1x1 .f32) (k v : FVec Ideal S4x16x64 .f32) : FVec Ideal S4x16x64x64 .f32 :=
  addf (subf S (mulf (broadcastInDim S4x16x64x64 ![0, 1, 2, 3] bcast_S1x16x1x1_S4x16x64x64_0_1_2_3 a) (mulf (broadcastInDim S4x16x64x64 ![0, 1, 2, 3] bcast_S4x16x64x1_S4x16x64x64_0_1_2_3 (broadcastInDim S4x16x64x1 ![0, 1, 2] bcast_S4x16x64_S4x16x64x1_0_1_2 (Host.dotGeneral dot_S4x16x64x64_S4x16x64_S4x16x64_3_2_2_n_01_01 none S k))) (broadcastInDim S4x16x64x64 ![0, 1, 2, 3] bcast_S4x16x1x64_S4x16x64x64_0_1_2_3 (broadcastInDim S4x16x1x64 ![0, 1, 3] bcast_S4x16x64_S4x16x1x64_0_1_3 k))))) (mulf (broadcastInDim S4x16x64x64 ![0, 1, 2, 3] bcast_S1x16x1x1_S4x16x64x64_0_1_2_3 b) (mulf (broadcastInDim S4x16x64x64 ![0, 1, 2, 3] bcast_S4x16x64x1_S4x16x64x64_0_1_2_3 (broadcastInDim S4x16x64x1 ![0, 1, 2] bcast_S4x16x64_S4x16x64x1_0_1_2 v)) (broadcastInDim S4x16x64x64 ![0, 1, 2, 3] bcast_S4x16x1x64_S4x16x64x64_0_1_2_3 (broadcastInDim S4x16x1x64 ![0, 1, 3] bcast_S4x16x64_S4x16x1x64_0_1_3 k))))

/-- What the trip's token reads. -/
def stepRead (S : FVec Ideal S4x16x64x64 .f32) (q : FVec Ideal S4x16x64 .f32) : FVec Ideal S4x16x64 .f32 :=
  Host.dotGeneral dot_S4x16x64_S4x16x64x64_S4x16x64_2_3_n_2_01_01 none q S

/-- An entry of a trip's states: the state less the decayed read along the key, plus the written value along the key. -/
theorem stepStates_apply (S : FVec Ideal S4x16x64x64 .f32) (a w : FVec Ideal S1x16x1x1 .f32) (k v : FVec Ideal S4x16x64 .f32)
    (b : Fin 4) (h : Fin 16) (d e : Fin 64) :
    stepStates S a w k v (ix4 b h d e)
      = (S (ix4 b h d e) - a (ix4 (0 : Fin 1) h (0 : Fin 1) (0 : Fin 1)) * ((∑ e' : Fin 64, (S (ix4 b h d e') * k (ix3 b h e') : EReal)) * k (ix3 b h e) : EReal)
        + w (ix4 (0 : Fin 1) h (0 : Fin 1) (0 : Fin 1)) * (v (ix3 b h d) * k (ix3 b h e)) : EReal) := by
  pointwise [stepStates]

/-- An entry of a trip's read: the state's row against the query. -/
theorem stepRead_apply (S : FVec Ideal S4x16x64x64 .f32) (q : FVec Ideal S4x16x64 .f32) (b : Fin 4) (h : Fin 16) (d : Fin 64) :
    stepRead S q (ix3 b h d) = ∑ e : Fin 64, (q (ix3 b h e) * S (ix4 b h d e) : EReal) := by
  pointwise [stepRead]

/-- The loop's step on the states. -/
theorem step_states (V : Valuation τ sig (Elt Ideal)) :
    step_main_v37_6 V = stepStates (V (Proc.devRef .tc main_v37_6)) (V (Proc.devRef .tc main_v37_3)) (V (Proc.devRef .tc main_v37_4))
      (slice (V (Proc.devRef .tc main_v37_1)) (V (Proc.devRef .tc main_v37_5)))
      (slice (V (Proc.devRef .tc main_v37_2)) (V (Proc.devRef .tc main_v37_5))) := rfl

/-- The loop's step on the reads. -/
theorem step_reads (V : Valuation τ sig (Elt Ideal)) :
    step_main_v37_7 V = put (V (Proc.devRef .tc main_v37_7))
      (stepRead (V (Proc.devRef .tc main_v37_6)) (slice (V (Proc.devRef .tc main_v37_0)) (V (Proc.devRef .tc main_v37_5))))
      (V (Proc.devRef .tc main_v37_5)) := by
  unfold step_main_v37_7 put stepRead slice starts; rfl

end Cert.ReferenceIdeal.Trip

end
-- ==== Proof.Reference.lean ====
/- What the reference computes: after its loop the states are those after all tokens, the reads are every token's, and
   the output is the reads against the output weights. -/
module

public import proofs.«01_k».proof.Proof.Entry
public import proofs.«01_k».proof.Proof.Trip

@[expose] public section

set_option maxRecDepth 16384

noncomputable section

namespace Cert.ReferenceIdeal.Trip

open Cert.ReferenceIdeal Cert.ReferenceIdeal.Gen Cert.ReferenceIdeal.Value
open Idealize.ShloMosaic Idealize.ShloMosaic.TcCoe Idealize.SL.Sem
open Cert.Delta Idealize.ShloMosaic.StableHlo

variable (m : (ℓ : Loc nD τ sig) → Buf (Elt Ideal) ℓ) (c : Dev nD)

/-- The problem's arguments, as the reference's memory holds them. -/
def args : Args where
  x := fun b t j => (m ((c.tc : Thread nD τ).loc main_arg0) : FVec Ideal S4x2048x1024 .f32) (ix3 b t j)
  wq := fun r j => (m ((c.tc : Thread nD τ).loc main_arg1) : FVec Ideal S1024x1024 .f32) (ix2 r j)
  wk := fun r j => (m ((c.tc : Thread nD τ).loc main_arg2) : FVec Ideal S1024x1024 .f32) (ix2 r j)
  wv := fun r j => (m ((c.tc : Thread nD τ).loc main_arg3) : FVec Ideal S1024x1024 .f32) (ix2 r j)
  wo := fun r j => (m ((c.tc : Thread nD τ).loc main_arg4) : FVec Ideal S1024x1024 .f32) (ix2 r j)
  a := fun h => (m ((c.tc : Thread nD τ).loc main_arg5) : FVec Ideal S1x16x1x1 .f32) (ix4 (0 : Fin 1) h (0 : Fin 1) (0 : Fin 1))
  b := fun h => (m ((c.tc : Thread nD τ).loc main_arg6) : FVec Ideal S1x16x1x1 .f32) (ix4 (0 : Fin 1) h (0 : Fin 1) (0 : Fin 1))
  s := fun b h d e => (m ((c.tc : Thread nD τ).loc main_arg7) : FVec Ideal S4x16x64x64 .f32) (ix4 b h d e)

/-- The loop's buffers after `n` trips. -/
def trips (n : ℕ) : Valuation τ sig (Elt Ideal) := STEP^[n] (entryContents preI m c)

/-- One trip more is one step more. -/
theorem trips_succ (n : ℕ) : trips m c (n + 1) = STEP (trips m c n) := Function.iterate_succ_apply' _ _ _

/-- The queries are not written. -/
theorem trips_queries (n : ℕ) : trips m c n (Proc.devRef .tc main_v37_0)
    = byToken (heads (m ((c.tc : Thread nD τ).loc main_arg0)) (m ((c.tc : Thread nD τ).loc main_arg1))) := by
  induction n with
  | zero => exact entry_queries m c
  | succ n ih => rw [trips_succ, STEP_main_v37_0, ih]

/-- The keys are not written. -/
theorem trips_keys (n : ℕ) : trips m c n (Proc.devRef .tc main_v37_1)
    = byToken (unitHeads (heads (m ((c.tc : Thread nD τ).loc main_arg0)) (m ((c.tc : Thread nD τ).loc main_arg2)))) := by
  induction n with
  | zero => exact entry_keys m c
  | succ n ih => rw [trips_succ, STEP_main_v37_1, ih]

/-- The values are not written. -/
theorem trips_values (n : ℕ) : trips m c n (Proc.devRef .tc main_v37_2)
    = byToken (heads (m ((c.tc : Thread nD τ).loc main_arg0)) (m ((c.tc : Thread nD τ).loc main_arg3))) := by
  induction n with
  | zero => exact entry_values m c
  | succ n ih => rw [trips_succ, STEP_main_v37_2, ih]

/-- The decay's rates are not written. -/
theorem trips_decay (n : ℕ) : trips m c n (Proc.devRef .tc main_v37_3) = rates (m ((c.tc : Thread nD τ).loc main_arg5)) := by
  induction n with
  | zero => exact entry_decay m c
  | succ n ih => rw [trips_succ, STEP_main_v37_3, ih]

/-- The write's rates are not written. -/
theorem trips_write (n : ℕ) : trips m c n (Proc.devRef .tc main_v37_4) = rates (m ((c.tc : Thread nD τ).loc main_arg6)) := by
  induction n with
  | zero => exact entry_write m c
  | succ n ih => rw [trips_succ, STEP_main_v37_4, ih]

/-- The counter counts the trips. -/
theorem trips_counter (n : ℕ) : trips m c n (Proc.devRef .tc main_v37_5) = fun _ => BitVec.ofNat 32 n := by
  induction n with
  | zero => exact ctr_entry m c
  | succ n ih =>
    rw [trips_succ, STEP_main_v37_5, step_main_v37_5, ih]
    funext i
    exact (BitVec.ofNat_add n 1).symm

/-- The queries of all tokens. -/
def queries : FVec Ideal S2048x4x16x64 .f32 := byToken (heads (m ((c.tc : Thread nD τ).loc main_arg0)) (m ((c.tc : Thread nD τ).loc main_arg1)))
/-- The keys of all tokens. -/
def keys : FVec Ideal S2048x4x16x64 .f32 :=
  byToken (unitHeads (heads (m ((c.tc : Thread nD τ).loc main_arg0)) (m ((c.tc : Thread nD τ).loc main_arg2))))
/-- The values of all tokens. -/
def values : FVec Ideal S2048x4x16x64 .f32 := byToken (heads (m ((c.tc : Thread nD τ).loc main_arg0)) (m ((c.tc : Thread nD τ).loc main_arg3)))
/-- The decay's rates. -/
def decays : FVec Ideal S1x16x1x1 .f32 := rates (m ((c.tc : Thread nD τ).loc main_arg5))
/-- The write's rates. -/
def writes : FVec Ideal S1x16x1x1 .f32 := rates (m ((c.tc : Thread nD τ).loc main_arg6))
/-- The counter's word at token `n`. -/
def counter (n : ℕ) : (⟨S_, .i32⟩ : BufTy).Contents (Elt Ideal) := fun _ => BitVec.ofNat 32 n

/-- The states after `n` trips. -/
def states (n : ℕ) : FVec Ideal S4x16x64x64 .f32 := trips m c n (Proc.devRef .tc main_v37_6)
/-- The reads after `n` trips. -/
def reads (n : ℕ) : FVec Ideal S2048x4x16x64 .f32 := trips m c n (Proc.devRef .tc main_v37_7)

/-- A trip's states from those before it. -/
theorem states_succ (n : ℕ) : states m c (n + 1)
    = stepStates (states m c n) (decays m c) (writes m c) (slice (keys m c) (counter n)) (slice (values m c) (counter n)) := by
  rw [states, trips_succ, STEP_main_v37_6, step_states, trips_decay, trips_write, trips_keys, trips_values, trips_counter]
  rfl

/-- A trip puts its token's read in place. -/
theorem reads_succ (n : ℕ) : reads m c (n + 1)
    = put (reads m c n) (stepRead (states m c n) (slice (queries m c) (counter n))) (counter n) := by
  rw [reads, trips_succ, STEP_main_v37_7, step_reads, trips_queries, trips_counter]
  rfl

variable {m c}

/-- Token `n`'s keys in the loop are the problem's. -/
theorem slice_key (n : Fin 2048) (b : Fin 4) (h : Fin 16) (d : Fin 64) :
    slice (keys m c) (counter n) (ix3 b h d) = (((args m c).key b h n d : ℝ) : EReal) := by
  refine (slice_apply _ n b h d).trans ?_
  rw [keys, byToken_apply, unitHeads_apply, ← Args.key_coe, token_val]
  refine congrArg (fun y => unitOf y d) ?_
  funext e
  exact heads_apply _ _ b h n e

/-- Token `n`'s values in the loop are the problem's. -/
theorem slice_value (f : (args m c).Finite) (n : Fin 2048) (b : Fin 4) (h : Fin 16) (d : Fin 64) :
    slice (values m c) (counter n) (ix3 b h d) = (((args m c).value b h n d : ℝ) : EReal) := by
  refine (slice_apply _ n b h d).trans ?_
  rw [values, byToken_apply, heads_apply, ← Args.value_coe f, token_val]
  rfl

/-- Token `n`'s queries in the loop are the problem's. -/
theorem slice_query (f : (args m c).Finite) (n : Fin 2048) (b : Fin 4) (h : Fin 16) (d : Fin 64) :
    slice (queries m c) (counter n) (ix3 b h d) = (((args m c).query b h n d : ℝ) : EReal) := by
  refine (slice_apply _ n b h d).trans ?_
  rw [queries, byToken_apply, heads_apply, ← Args.query_coe f, token_val]
  rfl

/-- The decay's rates are the problem's. -/
theorem decays_apply (h : Fin 16) : decays m c (ix4 (0 : Fin 1) h (0 : Fin 1) (0 : Fin 1)) = (((args m c).decay h : ℝ) : EReal) :=
  (rates_apply _ h).trans (Args.decay_coe (p := args m c) h)
/-- The write's rates are the problem's. -/
theorem writes_apply (h : Fin 16) : writes m c (ix4 (0 : Fin 1) h (0 : Fin 1) (0 : Fin 1)) = (((args m c).write h : ℝ) : EReal) :=
  (rates_apply _ h).trans (Args.write_coe (p := args m c) h)

/-- After `n` trips the states are those before token `n`. -/
theorem trips_states (f : (args m c).Finite) (n : ℕ) (hn : n ≤ 2048) (b : Fin 4) (h : Fin 16) (d e : Fin 64) :
    states m c n (ix4 b h d e) = (((args m c).state b h n d e : ℝ) : EReal) := by
  induction n generalizing d e with
  | zero => exact (congrFun (entry_states m c) _).trans (Args.start_coe f b h d e)
  | succ n ih =>
    have key := fun d => slice_key (m := m) (c := c) ⟨n, hn⟩ b h d
    have value := fun d => slice_value f ⟨n, hn⟩ b h d
    have hs : ∑ e' : Fin 64, (states m c n (ix4 b h d e') * slice (keys m c) (counter n) (ix3 b h e') : EReal)
        = ((∑ e', (args m c).state b h n d e' * (args m c).key b h n e' : ℝ) : EReal) := by
      rw [← coe_dot]; exact Finset.sum_congr rfl fun e' _ => by rw [key e', ih (by omega) d e']
    rw [states_succ, stepStates_apply, hs, decays_apply, writes_apply, value d, key e, ih (by omega) d e,
      ← EReal.coe_mul, ← EReal.coe_mul, ← EReal.coe_mul, ← EReal.coe_mul, ← EReal.coe_sub, ← EReal.coe_add]
    rfl

/-- After `n` trips the first `n` tokens' reads are in place. -/
theorem trips_reads (f : (args m c).Finite) (n : ℕ) (hn : n ≤ 2048) (i : Fin 2048) (hi : (i : ℕ) < n) (b : Fin 4) (h : Fin 16) (d : Fin 64) :
    reads m c n (ix4 i b h d) = (((args m c).read b h i d : ℝ) : EReal) := by
  induction n with
  | zero => omega
  | succ n ih =>
    rw [reads_succ]
    refine (put_apply _ _ ⟨n, hn⟩ i b h d).trans ?_
    by_cases hin : i = ⟨n, hn⟩
    · subst hin
      rw [if_pos rfl, stepRead_apply, Args.read, readAt, ← coe_dot]
      exact Finset.sum_congr rfl fun e _ => by rw [trips_states f n (by omega) b h d e, slice_query f ⟨n, hn⟩ b h e]; rfl
    · rw [if_neg hin]
      exact ih (by omega) (by have : (i : ℕ) ≠ n := fun hh => hin (Fin.ext hh); omega)

/-- The output weights are not written. -/
theorem trips_out_weights (n : ℕ) : trips m c n (Proc.devRef .tc main_arg4) = m ((c.tc : Thread nD τ).loc main_arg4) := by
  induction n with
  | zero => exact entry_out_weights m c
  | succ n ih =>
    rw [trips_succ, STEP, Function.update_of_ne (devRef_ne_of_ne (by decide)), Function.update_of_ne (devRef_ne_of_ne (by decide)),
      Function.update_of_ne (devRef_ne_of_ne (by decide)), ih]

/-- The output of the loop's reads. -/
def outOf (y : FVec Ideal S2048x4x16x64 .f32) (w : FVec Ideal S1024x1024 .f32) : FVec Ideal S4x2048x1024 .f32 :=
  Host.dotGeneral dot_S4x2048x1024_S1024x1024_S4x2048x1024_2_0_01_1_n_n none
    (shapeCast S4x2048x1024 (transpose S4x2048x16x64 [1, 0, 2, 3] y transposes_S2048x4x16x64_S4x2048x16x64_1_0_2_3) shapeCasts_S4x2048x16x64_S4x2048x1024)
    (transpose S1024x1024 [1, 0] w transposes_S1024x1024_S1024x1024_1_0)

/-- An entry of the output: the token's reads, all heads side by side, against the output weights' row. -/
theorem outOf_apply (y : FVec Ideal S2048x4x16x64 .f32) (w : FVec Ideal S1024x1024 .f32) (b : Fin 4) (t : Fin 2048) (r : Fin 1024) :
    outOf y w (ix3 b t r) = ∑ j : Fin 1024, (y (ix4 t b (headIx j) (laneIx j)) * w (ix2 r j) : EReal) := by
  pointwise [outOf, headIx, laneIx]

/-- The reference's first result: the problem's output. -/
theorem output_eq (f : (args m c).Finite) (b : Fin 4) (t : Fin 2048) (r : Fin 1024) :
    (out_main_v41 (STEP^[2048] (entryContents preI m c)) : FVec Ideal S4x2048x1024 .f32) (ix3 b t r) = (args m c).out b t r := by
  have ho : (out_main_v41 (STEP^[2048] (entryContents preI m c)) : FVec Ideal S4x2048x1024 .f32)
      = outOf (reads m c 2048) (trips m c 2048 (Proc.devRef .tc main_arg4)) := rfl
  rw [trips_out_weights] at ho
  refine (congrFun ho _).trans ((outOf_apply _ _ b t r).trans ?_)
  exact Finset.sum_congr rfl fun j _ => by rw [trips_reads f 2048 le_rfl t t.isLt]; rfl

/-- The reference's second result: the problem's states after the last token. -/
theorem states_eq (f : (args m c).Finite) (b : Fin 4) (h : Fin 16) (d e : Fin 64) :
    ((STEP^[2048] (entryContents preI m c)) (Proc.devRef .tc main_v37_6) : FVec Ideal S4x16x64x64 .f32) (ix4 b h d e)
      = (((args m c).state b h 2048 d e : ℝ) : EReal) :=
  trips_states f 2048 le_rfl b h d e

end Cert.ReferenceIdeal.Trip

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Finite
public import proofs.«01_k».proof.Proof.Results
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.StableHlo Idealize.SL.Sem
open Cert.Delta

-- The side conditions that the programs and the precondition state, from their proofs.
instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite.Facts := Cert.Pre_finite.facts

/-- The kernel over words runs and leaves its arguments and every counter as they were. -/
theorem kernel_frame : quiescent_Kernel := fun m g _ => Cert.Kernel.Gen.frame m g

/-- The kernel over exact numbers runs and leaves its arguments and every counter as they were. -/
theorem kernelIdeal_frame : quiescent_KernelIdeal := fun m g _ => Cert.KernelIdeal.Gen.frame m g

/-- The reference runs and leaves its arguments as they were; it has no counter. -/
theorem reference_frame : quiescent_ReferenceIdeal := fun m g _ =>
  (θ_run _ _ _).mono (fun r h => ⟨fun c => (h c).2.2, sem_eq_zero_of_no_sems rfl r.2⟩) (Cert.ReferenceIdeal.Value.run m g)

/-- Memories that agree on the arguments hold the same problem. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Trip.args m' c = Cert.KernelIdeal.Head.args m c :=
  Args.mk.injEq .. ▸ ⟨funext fun b => funext fun t => funext fun j => congrFun h0 (ix3 b t j),
    funext fun r => funext fun j => congrFun h1 (ix2 r j), funext fun r => funext fun j => congrFun h2 (ix2 r j),
    funext fun r => funext fun j => congrFun h3 (ix2 r j), funext fun r => funext fun j => congrFun h4 (ix2 r j),
    funext fun h => congrFun h5 (ix4 0 h 0 0), funext fun h => congrFun h6 (ix4 0 h 0 0),
    funext fun b => funext fun h => funext fun d => funext fun e => congrFun h7 (ix4 b h d e)⟩

/-- Under the precondition the problem is finite. -/
theorem args_finite (m : (ℓ : Loc Cert.KernelIdeal.nD Cert.KernelIdeal.τ Cert.KernelIdeal.sig) → Buf (Elt Ideal) ℓ)
    (h : Pre_KernelIdeal_finite m) (c : Dev Cert.KernelIdeal.nD) : (Cert.KernelIdeal.Head.args m c).Finite where
  x b t j := Cert.Pre_finite.finite_of_below _ _ (h c).1 (ix3 b t j)
  wq r j := Cert.Pre_finite.finite_of_below _ _ (h c).2.1 (ix2 r j)
  wv r j := Cert.Pre_finite.finite_of_below _ _ (h c).2.2.1 (ix2 r j)
  s b h' d e := Cert.Pre_finite.finite_of_below _ _ (h c).2.2.2 (ix4 b h' d e)

/-- The reference's first result is the kernel's, from the same finite problem. -/
theorem first_agrees (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e : Cert.ReferenceIdeal.Trip.args m' c = Cert.KernelIdeal.Head.args m c) (f : (Cert.KernelIdeal.Head.args m c).Finite) :
    (Cert.ReferenceIdeal.Value.out_main_v41 (Cert.ReferenceIdeal.Value.STEP^[2048] (entryContents Cert.ReferenceIdeal.Value.preI m' c)) : FVec Ideal Cert.KernelIdeal.S4x2048x1024 .f32)
      = Cert.KernelIdeal.Value.G7 m c := by
  funext i
  obtain ⟨b, t, r, rfl⟩ : ∃ (b : Fin 4) (t : Fin 2048) (r : Fin 1024), i = ix3 b t r := ⟨i 0, i 1, i 2, by
    funext a; match a with | ⟨0, _⟩ => rfl | ⟨1, _⟩ => rfl | ⟨2, _⟩ => rfl⟩
  refine (Cert.ReferenceIdeal.Trip.output_eq (e ▸ f) b t r).trans ?_
  rw [e]
  exact (Cert.KernelIdeal.Head.first_result m c f b t r).symm

/-- The reference's second result is the kernel's, from the same finite problem. -/
theorem second_agrees (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e : Cert.ReferenceIdeal.Trip.args m' c = Cert.KernelIdeal.Head.args m c) (f : (Cert.KernelIdeal.Head.args m c).Finite) :
    ((Cert.ReferenceIdeal.Value.STEP^[2048] (entryContents Cert.ReferenceIdeal.Value.preI m' c)) (Proc.devRef .tc Cert.ReferenceIdeal.main_v37_6) : FVec Ideal Cert.KernelIdeal.S4x16x64x64 .f32)
      = Cert.KernelIdeal.Value.G8 m c := by
  funext i
  obtain ⟨b, h, d, k, rfl⟩ : ∃ (b : Fin 4) (h : Fin 16) (d k : Fin 64), i = ix4 b h d k := ⟨i 0, i 1, i 2, i 3, by
    funext a; match a with | ⟨0, _⟩ => rfl | ⟨1, _⟩ => rfl | ⟨2, _⟩ => rfl | ⟨3, _⟩ => rfl⟩
  refine (Cert.ReferenceIdeal.Trip.states_eq (e ▸ f) b h d k).trans ?_
  rw [e]
  exact (Cert.KernelIdeal.Head.second_result m c f b h d k).symm

/-- The kernel's results are the reference's over exact numbers, under the precondition. -/
theorem agrees : algebraic_KernelIdeal_ReferenceIdeal_pre_finite := fun m g m' g' hpre hargs => by
  refine ⟨fun c => Cert.KernelIdeal.Value.G7 m c, fun c => Cert.KernelIdeal.Value.G8 m c, Cert.KernelIdeal.Value.run m g,
    (θ_run _ _ _).mono (fun r h c => ?_) (Cert.ReferenceIdeal.Value.run m' g')⟩
  obtain ⟨h0, h1, h2, h3, h4, h5, h6, h7⟩ := hargs c
  have e := args_agree m m' c h0 h1 h2 h3 h4 h5 h6 h7
  have f := args_finite m hpre c
  exact ⟨(h c).1.trans (first_agrees m m' c e f), (h c).2.1.trans (second_agrees m m' c e f), (h c).2.2⟩

/-- Every claim. -/
theorem claim : Cert.Claim := ⟨inferInstance, inferInstance, inferInstance, inferInstance, kernel_frame, kernelIdeal_frame,
  fun m g _ => kernelIdeal_frame m g trivial, reference_frame, fun m g _ => reference_frame m g trivial, trivial, agrees⟩

end Cert.Proof

end
